-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_an_expert : Cert.Pre_an_expert.Facts] (m : (ℓ : Loc Cert.Kernel2.nD Cert.Kernel2.τ Cert.Kernel2.sig) → Buf (Elt Bits) ℓ) : Prop :=
  ∀ c : Dev Cert.Kernel2.nD,
    (Cert.Pre_an_expert.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_an_expert : Cert.Pre_an_expert.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_an_expert.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_an_expert [hPre_an_expert : Cert.Pre_an_expert.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_an_expert.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_an_expert : Cert.Pre_an_expert.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_an_expert : Cert.Pre_an_expert.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_an_expert [hReference2Ideal : Cert.Reference2Ideal.Facts] [hPre_an_expert : Cert.Pre_an_expert.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_an_expert m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_an_expert : Cert.Pre_an_expert.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_an_expert : Cert.Pre_an_expert.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_an_expert := hPre_an_expert)
    ∧ quiescent_Kernel2Ideal (hKernel2Ideal := hKernel2Ideal) (hPre_an_expert := hPre_an_expert)
    ∧ quiescent_Reference2Ideal (hReference2Ideal := hReference2Ideal)
    ∧ quiescent_Reference2Ideal_pre_an_expert (hReference2Ideal := hReference2Ideal) (hPre_an_expert := hPre_an_expert)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_an_expert := hPre_an_expert)
-- ==== Pre_an_expert.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S147456x1024 .f32) (main_arg3 : FVec F S32x1024x2048 .f32) (main_arg4 : FVec F S32x2048 .f32) (main_arg5 : FVec F S32x1024x1024 .f32) (main_arg6 : FVec F S32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite.lean ====
abbrev S8x4096x4x2x64 : Shape := ⟨5, ![8, 4096, 4, 2, 64]⟩
abbrev S8x4096x4x128 : Shape := ⟨4, ![8, 4096, 4, 128]⟩
abbrev S1x4x64 : Shape := ⟨3, ![1, 4, 64]⟩
abbrev S1x128 : Shape := ⟨2, ![1, 128]⟩
abbrev S_ : Shape := ⟨0, ![]⟩
abbrev S1x1x4x1x64 : Shape := ⟨5, ![1, 1, 4, 1, 64]⟩

class Facts : Prop where
  shapeCasts_S8x4096x4x128_S8x4096x4x2x64 : S8x4096x4x128.ShapeCasts S8x4096x4x2x64
  bcast_S_S8x4096x4x2x64 : S_.BroadcastsInDim S8x4096x4x2x64 (![] : Fin 0 → Fin S8x4096x4x2x64.rank)
  shapeCasts_S1x4x64_S1x1x4x1x64 : S1x4x64.ShapeCasts S1x1x4x1x64
  bcast_S_S1x1x4x1x64 : S_.BroadcastsInDim S1x1x4x1x64 (![] : Fin 0 → Fin S1x1x4x1x64.rank)
  bcast_S1x1x4x1x64_S8x4096x4x2x64_0_1_2_3_4 : S1x1x4x1x64.BroadcastsInDim S8x4096x4x2x64 (![0, 1, 2, 3, 4] : Fin 5 → Fin S8x4096x4x2x64.rank)

variable [Facts]

def fn {F : FTy → Type} [FloatOps F] (main_arg0 : FVec F S8x4096x4x2x64 .f32) (main_arg1 : FVec F S8x4096x4x2x64 .f32) (main_arg2 : FVec F S8x4096x4x128 .f32) (main_arg3 : FVec F S1x4x64 .f32) (main_arg4 : FVec F S1x128 .f32) : IVec S8x4096x4x2x64 1 :=
  let main_v0 : FVec F S8x4096x4x2x64 .f32 := shapeCast S8x4096x4x2x64 main_arg2 shapeCasts_S8x4096x4x128_S8x4096x4x2x64
  let main_v1 : FVec F S8x4096x4x2x64 .f32 := Host.absf main_v0
  let main_cst : FVec F S_ .f32 := constant S_ .f32 0x7F800000#32
  let main_v2 : FVec F S8x4096x4x2x64 .f32 := broadcastInDim S8x4096x4x2x64 ![] bcast_S_S8x4096x4x2x64 main_cst
  let main_v3 : IVec S8x4096x4x2x64 1 := cmpf .olt main_v1 main_v2
  let main_v4 : FVec F S1x1x4x1x64 .f32 := shapeCast S1x1x4x1x64 main_arg3 shapeCasts_S1x4x64_S1x1x4x1x64
  let main_v5 : FVec F S1x1x4x1x64 .f32 := Host.absf main_v4
  let main_cst_0 : FVec F S_ .f32 := constant S_ .f32 0x7F800000#32
  let main_v6 : FVec F S1x1x4x1x64 .f32 := broadcastInDim S1x1x4x1x64 ![] bcast_S_S1x1x4x1x64 main_cst_0
  let main_v7 : IVec S1x1x4x1x64 1 := cmpf .olt main_v5 main_v6
  let main_v8 : IVec S8x4096x4x2x64 1 := broadcastInDim S8x4096x4x2x64 ![0, 1, 2, 3, 4] bcast_S1x1x4x1x64_S8x4096x4x2x64_0_1_2_3_4 main_v7
  let main_v9 : IVec S8x4096x4x2x64 1 := andi main_v3 main_v8
  main_v9
-- ==== Kernel.lean ====
abbrev S8x4096x4x2x64 : Shape := ⟨5, ![8, 4096, 4, 2, 64]⟩
abbrev S8x4096x4x128 : Shape := ⟨4, ![8, 4096, 4, 128]⟩
abbrev S1x4x64 : Shape := ⟨3, ![1, 4, 64]⟩
abbrev S1x128 : Shape := ⟨2, ![1, 128]⟩
abbrev S4 : Shape := ⟨1, ![4]⟩
abbrev S8x4096x512 : Shape := ⟨3, ![8, 4096, 512]⟩
abbrev S_ : Shape := ⟨0, ![]⟩
abbrev S8x4096x128 : Shape := ⟨3, ![8, 4096, 128]⟩
abbrev S8x4096x1024 : Shape := ⟨3, ![8, 4096, 1024]⟩
abbrev S4x64 : Shape := ⟨2, ![4, 64]⟩
abbrev S128 : Shape := ⟨1, ![128]⟩
abbrev S1x512x128 : Shape := ⟨3, ![1, 512, 128]⟩
abbrev S1x4096x128 : Shape := ⟨3, ![1, 4096, 128]⟩
abbrev S1x4096x256 : Shape := ⟨3, ![1, 4096, 256]⟩
abbrev S2x512x1 : Shape := ⟨3, ![2, 512, 1]⟩
abbrev S2x512x256 : Shape := ⟨3, ![2, 512, 256]⟩
abbrev S2x512x512 : Shape := ⟨3, ![2, 512, 512]⟩
abbrev S1 : Shape := ⟨1, ![1]⟩
abbrev S512x128 : Shape := ⟨2, ![512, 128]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S1x512x256 : Shape := ⟨3, ![1, 512, 256]⟩
abbrev S512x256 : Shape := ⟨2, ![512, 256]⟩
abbrev S1x512x1 : Shape := ⟨3, ![1, 512, 1]⟩
abbrev S512 : Shape := ⟨1, ![512]⟩
abbrev S1x64 : Shape := ⟨2, ![1, 64]⟩
abbrev S1x1 : Shape := ⟨2, ![1, 1]⟩

abbrev nBuf : Space → Nat
  | .hbm => 26
  | .vmem => 14
  | .smem => 1
  | _ => 0

abbrev bufTy : (tb : Table) → Fin (tcTables nBuf tb) → BufTy
  | .hbm, ⟨0, _⟩ => ⟨S8x4096x4x2x64, .f32⟩
  | .hbm, ⟨1, _⟩ => ⟨S8x4096x4x2x64, .f32⟩
  | .hbm, ⟨2, _⟩ => ⟨S8x4096x4x128, .f32⟩
  | .hbm, ⟨3, _⟩ => ⟨S1x4x64, .f32⟩
  | .hbm, ⟨4, _⟩ => ⟨S1x128, .f32⟩
  | .hbm, ⟨5, _⟩ => ⟨S4, .f32⟩
  | .hbm, ⟨6, _⟩ => ⟨S8x4096x512, .f32⟩
  | .hbm, ⟨7, _⟩ => ⟨S_, .f32⟩
  | .hbm, ⟨8, _⟩ => ⟨S8x4096x512, .f32⟩
  | .hbm, ⟨9, _⟩ => ⟨S8x4096x512, .f32⟩
  | .hbm, ⟨10, _⟩ => ⟨S8x4096x512, .bf16⟩
  | .hbm, ⟨11, _⟩ => ⟨S8x4096x512, .f32⟩
  | .hbm, ⟨12, _⟩ => ⟨S8x4096x512, .bf16⟩
  | .hbm, ⟨13, _⟩ => ⟨S8x4096x512, .f32⟩
  | .hbm, ⟨14, _⟩ => ⟨S8x4096x512, .bf16⟩
  | .hbm, ⟨15, _⟩ => ⟨S_, .bf16⟩
  | .hbm, ⟨16, _⟩ => ⟨S8x4096x128, .bf16⟩
  | .hbm, ⟨17, _⟩ => ⟨S8x4096x128, .bf16⟩
  | .hbm, ⟨18, _⟩ => ⟨S8x4096x128, .bf16⟩
  | .hbm, ⟨19, _⟩ => ⟨S8x4096x128, .bf16⟩
  | .hbm, ⟨20, _⟩ => ⟨S8x4096x128, .bf16⟩
  | .hbm, ⟨21, _⟩ => ⟨S8x4096x1024, .bf16⟩
  | .hbm, ⟨22, _⟩ => ⟨S4x64, .f32⟩
  | .hbm, ⟨23, _⟩ => ⟨S128, .f32⟩
  | .hbm, ⟨24, _⟩ => ⟨S1x128, .f32⟩
  | .hbm, ⟨25, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2x512x1, .f32⟩
  | .local _ .vmem, ⟨11, _⟩ => ⟨S2x512x256, .f32⟩
  | .local _ .vmem, ⟨12, _⟩ => ⟨S2x512x512, .f32⟩
  | .local _ .vmem, ⟨13, _⟩ => ⟨S2x512x512, .f32⟩
  | .local _ .smem, ⟨0, _⟩ => ⟨S4, .f32⟩
  | _, _ => ⟨S8x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let arg1 : BitVec 32 := BitVec.ofNat 32 (i 1).val
  let v1 : Index := Scalar.indexCast arg1
  ![v1.toNat]
def k0_mult1 (i : grid0.Coords) : BitVec 32 :=
  let c0_i32_28 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_27 : BitVec 32 := 1#32
  let v68 : BitVec 32 := Scalar.subi v49 c1_i32_27
  let v69 : BitVec 32 := Scalar.minsi c0_i32_28 v68
  let c512_i32_29 : BitVec 32 := 512#32
  let v70 : BitVec 32 := Scalar.muli v69 c512_i32_29
  v70
def k0_off2 (i : grid0.Coords) : Fin 3 → Nat :=
  let c0_30 : Index := 0#32
  let c0_i32_28 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_27 : BitVec 32 := 1#32
  let v68 : BitVec 32 := Scalar.subi v49 c1_i32_27
  let v69 : BitVec 32 := Scalar.minsi c0_i32_28 v68
  let c512_i32_29 : BitVec 32 := 512#32
  let v70 : BitVec 32 := Scalar.muli v69 c512_i32_29
  let v71 : BitVec 32 := v70
  let v72 : Index := Scalar.indexCast v71
  let c0_31 : Index := 0#32
  ![0, v72.toNat, 0]
@[reducible] def k0_t1_loop (i : grid0.Coords) : Scf.Loop 32 :=
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_43 : BitVec 32 := 1#32
  ⟨c0_i32_41, v88, c1_i32_43⟩
def k0_mult2 (i : grid0.Coords) (k0_t1 : Fin (k0_t1_loop i).trips) : BitVec 32 :=
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let c1_i32_182 : BitVec 32 := 1#32
  let v333 : BitVec 32 := Scalar.addi v332 c1_i32_182
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_183 : BitVec 32 := 1#32
  let v334 : BitVec 32 := Scalar.subi v49 c1_i32_183
  let v335 : BitVec 32 := Scalar.minsi v333 v334
  let c512_i32_184 : BitVec 32 := 512#32
  let v336 : BitVec 32 := Scalar.muli v335 c512_i32_184
  v336
def k0_off3 (i : grid0.Coords) (k0_t1 : Fin (k0_t1_loop i).trips) (c1_i32_182 : BitVec 32) : Fin 3 → Nat :=
  let c0_185 : Index := 0#32
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let v333 : BitVec 32 := Scalar.addi v332 c1_i32_182
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_183 : BitVec 32 := 1#32
  let v334 : BitVec 32 := Scalar.subi v49 c1_i32_183
  let v335 : BitVec 32 := Scalar.minsi v333 v334
  let c512_i32_184 : BitVec 32 := 512#32
  let v336 : BitVec 32 := Scalar.muli v335 c512_i32_184
  let v337 : BitVec 32 := v336
  let v338 : Index := Scalar.indexCast v337
  let c0_186 : Index := 0#32
  ![0, v338.toNat, 0]
def k0_mult3 (i : grid0.Coords) (k0_t1 : Fin (k0_t1_loop i).trips) : BitVec 32 :=
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_195 : BitVec 32 := 1#32
  let v349 : BitVec 32 := Scalar.subi v49 c1_i32_195
  let v350 : BitVec 32 := Scalar.minsi v332 v349
  let c512_i32_196 : BitVec 32 := 512#32
  let v351 : BitVec 32 := Scalar.muli v350 c512_i32_196
  v351
def k0_off4 (i : grid0.Coords) (k0_t1 : Fin (k0_t1_loop i).trips) : Fin 3 → Nat :=
  let c0_197 : Index := 0#32
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_195 : BitVec 32 := 1#32
  let v349 : BitVec 32 := Scalar.subi v49 c1_i32_195
  let v350 : BitVec 32 := Scalar.minsi v332 v349
  let c512_i32_196 : BitVec 32 := 512#32
  let v351 : BitVec 32 := Scalar.muli v350 c512_i32_196
  let v352 : BitVec 32 := v351
  let v353 : Index := Scalar.indexCast v352
  let c0_198 : Index := 0#32
  ![0, v353.toNat, 0]
def k0_mult4 (i : grid0.Coords) (k0_t1 : Fin (k0_t1_loop i).trips) : BitVec 32 :=
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let c2_i32_234 : BitVec 32 := 2#32
  let v418 : BitVec 32 := Scalar.addi v332 c2_i32_234
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_235 : BitVec 32 := 1#32
  let v419 : BitVec 32 := Scalar.subi v49 c1_i32_235
  let v420 : BitVec 32 := Scalar.minsi v418 v419
  let c512_i32_236 : BitVec 32 := 512#32
  let v421 : BitVec 32 := Scalar.muli v420 c512_i32_236
  v421
def k0_mult5 (i : grid0.Coords) (k0_t1 : Fin (k0_t1_loop i).trips) : BitVec 32 :=
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let c1_i32_247 : BitVec 32 := 1#32
  let v434 : BitVec 32 := Scalar.addi v332 c1_i32_247
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_248 : BitVec 32 := 1#32
  let v435 : BitVec 32 := Scalar.subi v49 c1_i32_248
  let v436 : BitVec 32 := Scalar.minsi v434 v435
  let c512_i32_249 : BitVec 32 := 512#32
  let v437 : BitVec 32 := Scalar.muli v436 c512_i32_249
  v437
def k0_off5 (i : grid0.Coords) (k0_t1 : Fin (k0_t1_loop i).trips) : Fin 3 → Nat :=
  let c0_250 : Index := 0#32
  let c2_i32_181 : BitVec 32 := 2#32
  let c0_i32_41 : BitVec 32 := 0#32
  let c1_i32_43 : BitVec 32 := 1#32
  let arg14 : BitVec 32 := Scf.iv c0_i32_41 c1_i32_43 k0_t1
  let v332 : BitVec 32 := Scalar.muli c2_i32_181 arg14
  let c1_i32_247 : BitVec 32 := 1#32
  let v434 : BitVec 32 := Scalar.addi v332 c1_i32_247
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_248 : BitVec 32 := 1#32
  let v435 : BitVec 32 := Scalar.subi v49 c1_i32_248
  let v436 : BitVec 32 := Scalar.minsi v434 v435
  let c512_i32_249 : BitVec 32 := 512#32
  let v437 : BitVec 32 := Scalar.muli v436 c512_i32_249
  let v438 : BitVec 32 := v437
  let v439 : Index := Scalar.indexCast v438
  let c0_251 : Index := 0#32
  ![0, v439.toNat, 0]
@[reducible] def k0_t2_loop (i : grid0.Coords) : Scf.Loop 32 :=
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let v85 : BitVec 32 := Scalar.addi c0_i32_41 v84
  let c1_i32_44 : BitVec 32 := 1#32
  ⟨v88, v85, c1_i32_44⟩
def k0_mult6 (i : grid0.Coords) (k0_t2 : Fin (k0_t2_loop i).trips) : BitVec 32 :=
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c1_i32_182 : BitVec 32 := 1#32
  let v333 : BitVec 32 := Scalar.addi v332 c1_i32_182
  let c1_i32_183 : BitVec 32 := 1#32
  let v334 : BitVec 32 := Scalar.subi v49 c1_i32_183
  let v335 : BitVec 32 := Scalar.minsi v333 v334
  let c512_i32_184 : BitVec 32 := 512#32
  let v336 : BitVec 32 := Scalar.muli v335 c512_i32_184
  v336
def k0_off6 (i : grid0.Coords) (k0_t2 : Fin (k0_t2_loop i).trips) (c1_i32_182 : BitVec 32) : Fin 3 → Nat :=
  let c0_185 : Index := 0#32
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let v333 : BitVec 32 := Scalar.addi v332 c1_i32_182
  let c1_i32_183 : BitVec 32 := 1#32
  let v334 : BitVec 32 := Scalar.subi v49 c1_i32_183
  let v335 : BitVec 32 := Scalar.minsi v333 v334
  let c512_i32_184 : BitVec 32 := 512#32
  let v336 : BitVec 32 := Scalar.muli v335 c512_i32_184
  let v337 : BitVec 32 := v336
  let v338 : Index := Scalar.indexCast v337
  let c0_186 : Index := 0#32
  ![0, v338.toNat, 0]
def k0_mult7 (i : grid0.Coords) (k0_t2 : Fin (k0_t2_loop i).trips) : BitVec 32 :=
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c1_i32_195 : BitVec 32 := 1#32
  let v349 : BitVec 32 := Scalar.subi v49 c1_i32_195
  let v350 : BitVec 32 := Scalar.minsi v332 v349
  let c512_i32_196 : BitVec 32 := 512#32
  let v351 : BitVec 32 := Scalar.muli v350 c512_i32_196
  v351
def k0_off7 (i : grid0.Coords) (k0_t2 : Fin (k0_t2_loop i).trips) : Fin 3 → Nat :=
  let c0_197 : Index := 0#32
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c1_i32_195 : BitVec 32 := 1#32
  let v349 : BitVec 32 := Scalar.subi v49 c1_i32_195
  let v350 : BitVec 32 := Scalar.minsi v332 v349
  let c512_i32_196 : BitVec 32 := 512#32
  let v351 : BitVec 32 := Scalar.muli v350 c512_i32_196
  let v352 : BitVec 32 := v351
  let v353 : Index := Scalar.indexCast v352
  let c0_198 : Index := 0#32
  ![0, v353.toNat, 0]
def k0_mult8 (i : grid0.Coords) (k0_t2 : Fin (k0_t2_loop i).trips) : BitVec 32 :=
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c2_i32_234 : BitVec 32 := 2#32
  let v418 : BitVec 32 := Scalar.addi v332 c2_i32_234
  let c1_i32_235 : BitVec 32 := 1#32
  let v419 : BitVec 32 := Scalar.subi v49 c1_i32_235
  let v420 : BitVec 32 := Scalar.minsi v418 v419
  let c512_i32_236 : BitVec 32 := 512#32
  let v421 : BitVec 32 := Scalar.muli v420 c512_i32_236
  v421
def k0_mult9 (i : grid0.Coords) (k0_t2 : Fin (k0_t2_loop i).trips) : BitVec 32 :=
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c1_i32_247 : BitVec 32 := 1#32
  let v434 : BitVec 32 := Scalar.addi v332 c1_i32_247
  let c1_i32_248 : BitVec 32 := 1#32
  let v435 : BitVec 32 := Scalar.subi v49 c1_i32_248
  let v436 : BitVec 32 := Scalar.minsi v434 v435
  let c512_i32_249 : BitVec 32 := 512#32
  let v437 : BitVec 32 := Scalar.muli v436 c512_i32_249
  v437
def k0_off8 (i : grid0.Coords) (k0_t2 : Fin (k0_t2_loop i).trips) : Fin 3 → Nat :=
  let c0_250 : Index := 0#32
  let c2_i32_181 : BitVec 32 := 2#32
  let c0_i32_41 : BitVec 32 := 0#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_39 : BitVec 32 := 1#32
  let v83 : BitVec 32 := Scalar.subi v67 c1_i32_39
  let v84 : BitVec 32 := Scalar.subi v83 c0_i32_41
  let c1_i32_42 : BitVec 32 := 1#32
  let v86 : BitVec 32 := Scalar.divsi v84 c1_i32_42
  let v87 : BitVec 32 := Scalar.muli v86 c1_i32_42
  let v88 : BitVec 32 := Scalar.addi c0_i32_41 v87
  let c1_i32_44 : BitVec 32 := 1#32
  let arg14 : BitVec 32 := Scf.iv v88 c1_i32_44 k0_t2
  let v332 : BitVec 32 := Scalar.muli c2_i32_181 arg14
  let c1_i32_247 : BitVec 32 := 1#32
  let v434 : BitVec 32 := Scalar.addi v332 c1_i32_247
  let c1_i32_248 : BitVec 32 := 1#32
  let v435 : BitVec 32 := Scalar.subi v49 c1_i32_248
  let v436 : BitVec 32 := Scalar.minsi v434 v435
  let c512_i32_249 : BitVec 32 := 512#32
  let v437 : BitVec 32 := Scalar.muli v436 c512_i32_249
  let v438 : BitVec 32 := v437
  let v439 : Index := Scalar.indexCast v438
  let c0_251 : Index := 0#32
  ![0, v439.toNat, 0]
def k0_mult10 (i : grid0.Coords) : BitVec 32 :=
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c1_i32_47 : BitVec 32 := 1#32
  let v91 : BitVec 32 := Scalar.addi v90 c1_i32_47
  let c1_i32_48 : BitVec 32 := 1#32
  let v92 : BitVec 32 := Scalar.subi v49 c1_i32_48
  let v93 : BitVec 32 := Scalar.minsi v91 v92
  let c512_i32_49 : BitVec 32 := 512#32
  let v94 : BitVec 32 := Scalar.muli v93 c512_i32_49
  v94
def k0_off9 (i : grid0.Coords) (c1_i32_47 : BitVec 32) : Fin 3 → Nat :=
  let c0_50 : Index := 0#32
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let v91 : BitVec 32 := Scalar.addi v90 c1_i32_47
  let c1_i32_48 : BitVec 32 := 1#32
  let v92 : BitVec 32 := Scalar.subi v49 c1_i32_48
  let v93 : BitVec 32 := Scalar.minsi v91 v92
  let c512_i32_49 : BitVec 32 := 512#32
  let v94 : BitVec 32 := Scalar.muli v93 c512_i32_49
  let v95 : BitVec 32 := v94
  let v96 : Index := Scalar.indexCast v95
  let c0_51 : Index := 0#32
  ![0, v96.toNat, 0]
def k0_mult11 (i : grid0.Coords) : BitVec 32 :=
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c1_i32_60 : BitVec 32 := 1#32
  let v107 : BitVec 32 := Scalar.subi v49 c1_i32_60
  let v108 : BitVec 32 := Scalar.minsi v90 v107
  let c512_i32_61 : BitVec 32 := 512#32
  let v109 : BitVec 32 := Scalar.muli v108 c512_i32_61
  v109
def k0_off10 (i : grid0.Coords) : Fin 3 → Nat :=
  let c0_62 : Index := 0#32
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c1_i32_60 : BitVec 32 := 1#32
  let v107 : BitVec 32 := Scalar.subi v49 c1_i32_60
  let v108 : BitVec 32 := Scalar.minsi v90 v107
  let c512_i32_61 : BitVec 32 := 512#32
  let v109 : BitVec 32 := Scalar.muli v108 c512_i32_61
  let v110 : BitVec 32 := v109
  let v111 : Index := Scalar.indexCast v110
  let c0_63 : Index := 0#32
  ![0, v111.toNat, 0]
def k0_mult12 (i : grid0.Coords) : BitVec 32 :=
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c2_i32_101 : BitVec 32 := 2#32
  let v186 : BitVec 32 := Scalar.addi v90 c2_i32_101
  let c1_i32_102 : BitVec 32 := 1#32
  let v187 : BitVec 32 := Scalar.subi v49 c1_i32_102
  let v188 : BitVec 32 := Scalar.minsi v186 v187
  let c512_i32_103 : BitVec 32 := 512#32
  let v189 : BitVec 32 := Scalar.muli v188 c512_i32_103
  v189
def k0_mult13 (i : grid0.Coords) : BitVec 32 :=
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c1_i32_114 : BitVec 32 := 1#32
  let v202 : BitVec 32 := Scalar.addi v90 c1_i32_114
  let c1_i32_115 : BitVec 32 := 1#32
  let v203 : BitVec 32 := Scalar.subi v49 c1_i32_115
  let v204 : BitVec 32 := Scalar.minsi v202 v203
  let c512_i32_116 : BitVec 32 := 512#32
  let v205 : BitVec 32 := Scalar.muli v204 c512_i32_116
  v205
def k0_off11 (i : grid0.Coords) : Fin 3 → Nat :=
  let c0_117 : Index := 0#32
  let c2_i32_46 : BitVec 32 := 2#32
  let arg2 : BitVec 32 := BitVec.ofNat 32 (i 2).val
  let c512_i32 : BitVec 32 := 512#32
  let v0 : BitVec 32 := Scalar.muli arg2 c512_i32
  let c512_i32_12 : BitVec 32 := 512#32
  let v30 : BitVec 32 := Scalar.addi v0 c512_i32_12
  let c512_i32_13 : BitVec 32 := 512#32
  let v31 : BitVec 32 := Scalar.addi v30 c512_i32_13
  let c1_i32 : BitVec 32 := 1#32
  let v32 : BitVec 32 := Scalar.subi v31 c1_i32
  let c0_i32 : BitVec 32 := 0#32
  let v34 : BitVec 1 := Scalar.cmpi .sgt v32 c0_i32
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c512_i32_14 : BitVec 32 := 512#32
  let c0_i32_16 : BitVec 32 := 0#32
  let v39 : BitVec 1 := Scalar.cmpi .sgt c512_i32_14 c0_i32_16
  let v40 : BitVec 32 := Scalar.extui v39
  let c0_i32_17 : BitVec 32 := 0#32
  let v41 : BitVec 1 := Scalar.cmpi .slt c512_i32_14 c0_i32_17
  let v42 : BitVec 32 := Scalar.extui v41
  let v43 : BitVec 32 := Scalar.subi v40 v42
  let v44 : BitVec 1 := Scalar.cmpi .ne v38 v43
  let v45 : BitVec 32 := Scalar.remsi v32 c512_i32_14
  let c0_i32_18 : BitVec 32 := 0#32
  let v46 : BitVec 1 := Scalar.cmpi .ne v45 c0_i32_18
  let v47 : BitVec 1 := Scalar.andi v44 v46
  let v33 : BitVec 32 := Scalar.divsi v32 c512_i32_14
  let c1_i32_19 : BitVec 32 := 1#32
  let v48 : BitVec 32 := Scalar.subi v33 c1_i32_19
  let v49 : BitVec 32 := Scalar.select v47 v48 v33
  let c1_i32_20 : BitVec 32 := 1#32
  let v50 : BitVec 32 := Scalar.addi v49 c1_i32_20
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c2_i32 : BitVec 32 := 2#32
  let c0_i32_23 : BitVec 32 := 0#32
  let v57 : BitVec 1 := Scalar.cmpi .sgt c2_i32 c0_i32_23
  let v58 : BitVec 32 := Scalar.extui v57
  let c0_i32_24 : BitVec 32 := 0#32
  let v59 : BitVec 1 := Scalar.cmpi .slt c2_i32 c0_i32_24
  let v60 : BitVec 32 := Scalar.extui v59
  let v61 : BitVec 32 := Scalar.subi v58 v60
  let v62 : BitVec 1 := Scalar.cmpi .ne v56 v61
  let v63 : BitVec 32 := Scalar.remsi v50 c2_i32
  let c0_i32_25 : BitVec 32 := 0#32
  let v64 : BitVec 1 := Scalar.cmpi .ne v63 c0_i32_25
  let v65 : BitVec 1 := Scalar.andi v62 v64
  let v51 : BitVec 32 := Scalar.divsi v50 c2_i32
  let c1_i32_26 : BitVec 32 := 1#32
  let v66 : BitVec 32 := Scalar.subi v51 c1_i32_26
  let v67 : BitVec 32 := Scalar.select v65 v66 v51
  let c1_i32_45 : BitVec 32 := 1#32
  let v89 : BitVec 32 := Scalar.subi v67 c1_i32_45
  let v90 : BitVec 32 := Scalar.muli c2_i32_46 v89
  let c1_i32_114 : BitVec 32 := 1#32
  let v202 : BitVec 32 := Scalar.addi v90 c1_i32_114
  let c1_i32_115 : BitVec 32 := 1#32
  let v203 : BitVec 32 := Scalar.subi v49 c1_i32_115
  let v204 : BitVec 32 := Scalar.minsi v202 v203
  let c512_i32_116 : BitVec 32 := 512#32
  let v205 : BitVec 32 := Scalar.muli v204 c512_i32_116
  let v206 : BitVec 32 := v205
  let v207 : Index := Scalar.indexCast v206
  let c0_118 : Index := 0#32
  ![0, v207.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x4x2x64 : Shape := ⟨5, ![8, 4096, 4, 2, 64]⟩
abbrev S8x4096x4x128 : Shape := ⟨4, ![8, 4096, 4, 128]⟩
abbrev S1x4x64 : Shape := ⟨3, ![1, 4, 64]⟩
abbrev S1x128 : Shape := ⟨2, ![1, 128]⟩
abbrev S4 : Shape := ⟨1, ![4]⟩
abbrev S4x64 : Shape := ⟨2, ![4, 64]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x2x4096x4096 : Shape := ⟨5, ![8, 4, 2, 4096, 4096]⟩
abbrev S1x4x1x1x1 : Shape := ⟨5, ![1, 4, 1, 1, 1]⟩
abbrev S1x1x1x4096x4096 : Shape := ⟨5, ![1, 1, 1, 4096, 4096]⟩
abbrev S1x4x1x4096x4096 : Shape := ⟨5, ![1, 4, 1, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x4x2x64, .f32⟩
  | .hbm, ⟨1, _⟩ => ⟨S8x4096x4x2x64, .f32⟩
  | .hbm, ⟨2, _⟩ => ⟨S8x4096x4x128, .f32⟩
  | .hbm, ⟨3, _⟩ => ⟨S1x4x64, .f32⟩
  | .hbm, ⟨4, _⟩ => ⟨S1x128, .f32⟩
  | .hbm, ⟨5, _⟩ => ⟨S4, .f32⟩
  | .hbm, ⟨6, _⟩ => ⟨S4x64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .i32⟩
  | .hbm, ⟨27, _⟩ => ⟨S4096x1, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S4096x4096, .f32⟩
  | .hbm, ⟨33, _⟩ => ⟨S8x4x2x4096x4096, .f32⟩
  | .hbm, ⟨34, _⟩ => ⟨S_, .f32⟩
  | .hbm, ⟨35, _⟩ => ⟨S8x4x2x4096x4096, .f32⟩
  | .hbm, ⟨36, _⟩ => ⟨S8x4x2x4096x4096, .f32⟩
  | .hbm, ⟨37, _⟩ => ⟨S1x4x1x1x1, .f32⟩
  | .hbm, ⟨38, _⟩ => ⟨S1x1x1x4096x4096, .f32⟩
  | .hbm, ⟨39, _⟩ => ⟨S1x4x1x4096x4096, .f32⟩
  | .hbm, ⟨40, _⟩ => ⟨S1x4x1x4096x4096, .f32⟩
  | .hbm, ⟨41, _⟩ => ⟨S1x4x1x4096x4096, .f32⟩
  | .hbm, ⟨42, _⟩ => ⟨S8x4x2x4096x4096, .f32⟩
  | .hbm, ⟨43, _⟩ => ⟨S8x4x2x4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S8x4x2x4096x4096, .i1⟩
  | .hbm, ⟨50, _⟩ => ⟨S8x4x2x4096x4096, .f32⟩
  | .hbm, ⟨51, _⟩ => ⟨S8x4x2x4096x4096, .f32⟩
  | .hbm, ⟨52, _⟩ => ⟨S_, .f32⟩
  | .hbm, ⟨53, _⟩ => ⟨S8x4x2x4096, .f32⟩
  | .hbm, ⟨54, _⟩ => ⟨S_, .f32⟩
  | .hbm, ⟨55, _⟩ => ⟨S8x4x2x4096, .f32⟩
  | .hbm, ⟨56, _⟩ => ⟨S8x4x2x4096, .f32⟩
  | .hbm, ⟨57, _⟩ => ⟨S8x4x2x4096x1, .f32⟩
  | .hbm, ⟨58, _⟩ => ⟨S8x4x2x4096x4096, .f32⟩
  | .hbm, ⟨59, _⟩ => ⟨S8x4x2x4096x4096, .f32⟩
  | .hbm, ⟨60, _⟩ => ⟨S8x4x2x4096x4096, .f32⟩
  | .hbm, ⟨61, _⟩ => ⟨S_, .f32⟩
  | .hbm, ⟨62, _⟩ => ⟨S8x4x2x4096, .f32⟩
  | .hbm, ⟨63, _⟩ => ⟨S8x4x2x4096x1, .f32⟩
  | .hbm, ⟨64, _⟩ => ⟨S8x4x2x4096x4096, .f32⟩
  | .hbm, ⟨65, _⟩ => ⟨S8x4x2x4096x4096, .f32⟩
  | .hbm, ⟨66, _⟩ => ⟨S8x4x1x4096x4096, .f32⟩
  | .hbm, ⟨67, _⟩ => ⟨S8x4x4096x4096, .f32⟩
  | .hbm, ⟨68, _⟩ => ⟨S8x4x1x4096x4096, .f32⟩
  | .hbm, ⟨69, _⟩ => ⟨S8x4x4096x4096, .f32⟩
  | .hbm, ⟨70, _⟩ => ⟨S8x4x4096x4096, .f32⟩
  | .hbm, ⟨71, _⟩ => ⟨S8x4x4096x4096, .f32⟩
  | .hbm, ⟨72, _⟩ => ⟨S8x4x4096x4096, .f32⟩
  | .hbm, ⟨73, _⟩ => ⟨S8x4x128x4096, .f32⟩
  | .hbm, ⟨74, _⟩ => ⟨S8x4096x4x128, .f32⟩
  | .hbm, ⟨75, _⟩ => ⟨S128, .f32⟩
  | .hbm, ⟨76, _⟩ => ⟨S8x4096x4x128, .f32⟩
  | .hbm, ⟨77, _⟩ => ⟨S_, .f32⟩
  | .hbm, ⟨78, _⟩ => ⟨S8x4096x4, .f32⟩
  | .hbm, ⟨79, _⟩ => ⟨S8x4096x4x1, .f32⟩
  | .hbm, ⟨80, _⟩ => ⟨S_, .f32⟩
  | .hbm, ⟨81, _⟩ => ⟨S8x4096x4x1, .f32⟩
  | .hbm, ⟨82, _⟩ => ⟨S8x4096x4x1, .f32⟩
  | .hbm, ⟨83, _⟩ => ⟨S_, .f32⟩
  | .hbm, ⟨84, _⟩ => ⟨S8x4096x4x1, .f32⟩
  | .hbm, ⟨85, _⟩ => ⟨S8x4096x4x1, .f32⟩
  | .hbm, ⟨86, _⟩ => ⟨S8x4096x4x1, .f32⟩
  | .hbm, ⟨87, _⟩ => ⟨S8x4096x4x128, .f32⟩
  | .hbm, ⟨88, _⟩ => ⟨S8x4096x4x128, .f32⟩
  | .hbm, ⟨89, _⟩ => ⟨S1x1x1x128, .f32⟩
  | .hbm, ⟨90, _⟩ => ⟨S8x4096x4x128, .f32⟩
  | .hbm, ⟨91, _⟩ => ⟨S8x4096x4x128, .f32⟩
  | .hbm, ⟨92, _⟩ => ⟨S_, .f32⟩
  | .hbm, ⟨93, _⟩ => ⟨S8x4096x4x128, .f32⟩
  | .hbm, ⟨94, _⟩ => ⟨S8x4096x4x128, .f32⟩
  | .hbm, ⟨95, _⟩ => ⟨S8x4096x512, .f32⟩
  | .hbm, ⟨96, _⟩ => ⟨S8x4096x512, .bf16⟩
  | _, _ => ⟨S8x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 8
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x512x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x512x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048, .f32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x512x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1024, .f32⟩
  | .hbm, ⟨78, _⟩ => ⟨S288x1x1024, .f32⟩
  | .hbm, ⟨79, _⟩ => ⟨S288x512x1024, .f32⟩
  | .hbm, ⟨80, _⟩ => ⟨S288x512x1024, .f32⟩
  | .hbm, ⟨81, _⟩ => ⟨S288, .i32⟩
  | .hbm, ⟨82, _⟩ => ⟨S_, .i32⟩
  | .hbm, ⟨83, _⟩ => ⟨S288, .i32⟩
  | .hbm, ⟨84, _⟩ => ⟨S288, .i1⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x512x1024, .i1⟩
  | .hbm, ⟨89, _⟩ => ⟨S288x512x1024, .f32⟩
  | .hbm, ⟨90, _⟩ => ⟨S288x512x1024, .f32⟩
  | .hbm, ⟨91, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.Half.lean ====
module
public import proofs.«01_k».proof.Proof.Gen.KernelIdeal.Frame.Runs
public import Idealize.ShloMosaic.Lib.VecWindow
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Two payloads, one per query half, laid one after the other along the leading axis. -/
def two {s : Shape} (r0 r1 : Rect s) (a : r0.shape.Idx → Elt F .f32) (b : r1.shape.Idx → Elt F .f32) : s.Idx → Elt F .f32 :=
  View.canon (Val := Elt F) (e := .f32) [⟨r1, b⟩, ⟨r0, a⟩]

section
variable {s : Shape} {r0 r1 : Rect s} {κ : Kind} {sp : Space}

/-- The first half of two is the first payload. -/
theorem ld_two0 (hd : Disjoint r1.set r0.set) (a : r0.shape.Idx → Elt F .f32) (b : r1.shape.Idx → Elt F .f32) :
    View.ld (Val := Elt F) (e' := .f32) (two r0 r1 a b) r0 = a := by
  funext x
  show View.canon (Val := Elt F) (e := .f32) [⟨r1, b⟩, ⟨r0, a⟩] (r0.emb x) = a x
  rw [View.canon_cons_of_not_mem _ _ (Finset.disjoint_right.mp hd (r0.idx_mem x)), View.canon_cons_emb]

/-- The second half of two is the second payload. -/
theorem ld_two1 (a : r0.shape.Idx → Elt F .f32) (b : r1.shape.Idx → Elt F .f32) :
    View.ld (Val := Elt F) (e' := .f32) (two r0 r1 a b) r1 = b := by
  funext x
  exact View.canon_cons_emb (Val := Elt F) (e := .f32) r1 b _ x

/-- After the two halves are stored, whatever was there before, the buffer reads the two payloads. -/
theorem read_two (hc : ∀ y, y ∉ r1.set → y ∈ r0.set) (v : View sig κ sp s .f32) (f : v.ty.Contents (Elt F))
    (a : r0.shape.Idx → Elt F .f32) (b : r1.shape.Idx → Elt F .f32) (L : List (View.Piece (Elt F) s .f32)) :
    v.read (Elt F) (v.writes (Elt F) f (⟨r1, b⟩ :: ⟨r0, a⟩ :: L)) = two r0 r1 a b := by
  funext y
  by_cases h1 : y ∈ r1.set
  · rw [View.read_writes_apply_eq_canon v f y _ ⟨_, List.mem_cons_self, h1⟩]
    obtain ⟨x, rfl⟩ := r1.exists_idx_of_mem h1
    exact (View.canon_cons_emb (Val := Elt F) (e := .f32) r1 b _ x).trans (View.canon_cons_emb (Val := Elt F) (e := .f32) r1 b _ x).symm
  · have h0 := hc y h1
    rw [View.read_writes_apply_eq_canon v f y _ ⟨_, List.mem_cons_of_mem _ List.mem_cons_self, h0⟩]
    unfold two
    rw [View.canon_cons_of_not_mem ⟨r1, b⟩ (⟨r0, a⟩ :: L) h1, View.canon_cons_of_not_mem ⟨r1, b⟩ [⟨r0, a⟩] h1]
    obtain ⟨x, rfl⟩ := r0.exists_idx_of_mem h0
    exact (View.canon_cons_emb (Val := Elt F) (e := .f32) r0 a _ x).trans (View.canon_cons_emb (Val := Elt F) (e := .f32) r0 a _ x).symm

/-- An array that two rectangles cover is what it holds there. -/
theorem eta_two (hc : ∀ y, y ∉ r1.set → y ∈ r0.set) (X : s.Idx → Elt F .f32) :
    X = two r0 r1 (View.ld (Val := Elt F) (e' := .f32) X r0) (View.ld (Val := Elt F) (e' := .f32) X r1) := by
  funext y
  unfold two
  by_cases h1 : y ∈ r1.set
  · obtain ⟨x, rfl⟩ := r1.exists_idx_of_mem h1
    exact (View.canon_cons_emb (Val := Elt F) (e := .f32) r1 (View.ld (Val := Elt F) (e' := .f32) X r1) _ x).symm
  · have h0 := hc y h1
    rw [View.canon_cons_of_not_mem ⟨r1, View.ld (Val := Elt F) (e' := .f32) X r1⟩ _ h1]
    obtain ⟨x, rfl⟩ := r0.exists_idx_of_mem h0
    exact (View.canon_cons_emb (Val := Elt F) (e := .f32) r0 (View.ld (Val := Elt F) (e' := .f32) X r0) _ x).symm

/-- What two covering writes leave does not depend on the writes before them. -/
theorem canon_two (hc : ∀ y, y ∉ r1.set → y ∈ r0.set) (a : r0.shape.Idx → Elt F .f32) (b : r1.shape.Idx → Elt F .f32) (L : List (View.Piece (Elt F) s .f32)) :
    View.canon (Val := Elt F) (e := .f32) (⟨r1, b⟩ :: ⟨r0, a⟩ :: L) = two r0 r1 a b := by
  funext y
  unfold two
  by_cases h1 : y ∈ r1.set
  · obtain ⟨x, rfl⟩ := r1.exists_idx_of_mem h1
    exact (View.canon_cons_emb (Val := Elt F) (e := .f32) r1 b _ x).trans (View.canon_cons_emb (Val := Elt F) (e := .f32) r1 b _ x).symm
  · have h0 := hc y h1
    rw [View.canon_cons_of_not_mem ⟨r1, b⟩ (⟨r0, a⟩ :: L) h1, View.canon_cons_of_not_mem ⟨r1, b⟩ [⟨r0, a⟩] h1]
    obtain ⟨x, rfl⟩ := r0.exists_idx_of_mem h0
    exact (View.canon_cons_emb (Val := Elt F) (e := .f32) r0 a _ x).trans (View.canon_cons_emb (Val := Elt F) (e := .f32) r0 a _ x).symm

theorem cov_other (hd : Disjoint r1.set r0.set) (v : View sig κ sp s .f32) (b : r1.shape.Idx → Elt F .f32) (L : List (View.Piece (Elt F) s .f32)) :
    v.readCov (Val := Elt F) (⟨r1, b⟩ :: L) r0.toLoadRect = v.readCov L r0.toLoadRect :=
  View.readCov_cons_of_disjoint v ⟨r1, b⟩ L r0.toLoadRect hd
end

theorem disj1 : Disjoint (Rect.unit (s := S2x512x1) ![1, 0, 0] S1x512x1.size inb_S2x512x1_S1x512x1_1_0_0).set (Rect.unit (s := S2x512x1) ![0, 0, 0] S1x512x1.size inb_S2x512x1_S1x512x1_0_0_0).set := by
  rw [Finset.disjoint_left]; intro y h1 h0
  have h1 := (Rect.mem_set_unit.mp h1 0).1
  have h0 := (Rect.mem_set_unit.mp h0 0).2
  have e1 : 1 ≤ (y 0).val := h1
  have e0 : (y 0).val < 1 := h0
  omega

theorem cover1 : ∀ y, y ∉ (Rect.unit (s := S2x512x1) ![1, 0, 0] S1x512x1.size inb_S2x512x1_S1x512x1_1_0_0).set → y ∈ (Rect.unit (s := S2x512x1) ![0, 0, 0] S1x512x1.size inb_S2x512x1_S1x512x1_0_0_0).set := by
  intro y h
  have hy0 : (y 0).val < 2 := (y 0).isLt
  have hy1 : (y 1).val < 512 := (y 1).isLt
  have hy2 : (y 2).val < 1 := (y 2).isLt
  by_cases hz : (y 0).val = 0
  · refine Rect.mem_set_unit.mpr fun d => ?_
    fin_cases d
    · exact ⟨Nat.zero_le _, show (y 0).val < 0 + 1 by omega⟩
    · exact ⟨Nat.zero_le _, show (y 1).val < 0 + 512 by omega⟩
    · exact ⟨Nat.zero_le _, show (y 2).val < 0 + 1 by omega⟩
  · refine absurd (Rect.mem_set_unit.mpr fun d => ?_) h
    fin_cases d
    · exact ⟨show 1 ≤ (y 0).val by omega, show (y 0).val < 1 + 1 by omega⟩
    · exact ⟨Nat.zero_le _, show (y 1).val < 0 + 512 by omega⟩
    · exact ⟨Nat.zero_le _, show (y 2).val < 0 + 1 by omega⟩

/-- Two payloads of this shape, one per query half. -/
abbrev two1 (a b : Vec F S1x512x1 .f32) : Vec F S2x512x1 .f32 := two (Rect.unit (s := S2x512x1) ![0, 0, 0] S1x512x1.size inb_S2x512x1_S1x512x1_0_0_0) (Rect.unit (s := S2x512x1) ![1, 0, 0] S1x512x1.size inb_S2x512x1_S1x512x1_1_0_0) a b

theorem ld1_0 (a b : Vec F S1x512x1 .f32) : View.ld (Val := Elt F) (e' := .f32) (two1 a b) (Rect.unit (s := S2x512x1) ![0, 0, 0] S1x512x1.size inb_S2x512x1_S1x512x1_0_0_0) = a := ld_two0 (r0 := (Rect.unit (s := S2x512x1) ![0, 0, 0] S1x512x1.size inb_S2x512x1_S1x512x1_0_0_0)) (r1 := (Rect.unit (s := S2x512x1) ![1, 0, 0] S1x512x1.size inb_S2x512x1_S1x512x1_1_0_0)) disj1 a b
theorem ld1_1 (a b : Vec F S1x512x1 .f32) : View.ld (Val := Elt F) (e' := .f32) (two1 a b) (Rect.unit (s := S2x512x1) ![1, 0, 0] S1x512x1.size inb_S2x512x1_S1x512x1_1_0_0) = b := ld_two1 (r0 := (Rect.unit (s := S2x512x1) ![0, 0, 0] S1x512x1.size inb_S2x512x1_S1x512x1_0_0_0)) (r1 := (Rect.unit (s := S2x512x1) ![1, 0, 0] S1x512x1.size inb_S2x512x1_S1x512x1_1_0_0)) a b

theorem disj256 : Disjoint (Rect.unit (s := S2x512x256) ![1, 0, 0] S1x512x256.size inb_S2x512x256_S1x512x256_1_0_0).set (Rect.unit (s := S2x512x256) ![0, 0, 0] S1x512x256.size inb_S2x512x256_S1x512x256_0_0_0).set := by
  rw [Finset.disjoint_left]; intro y h1 h0
  have h1 := (Rect.mem_set_unit.mp h1 0).1
  have h0 := (Rect.mem_set_unit.mp h0 0).2
  have e1 : 1 ≤ (y 0).val := h1
  have e0 : (y 0).val < 1 := h0
  omega

theorem cover256 : ∀ y, y ∉ (Rect.unit (s := S2x512x256) ![1, 0, 0] S1x512x256.size inb_S2x512x256_S1x512x256_1_0_0).set → y ∈ (Rect.unit (s := S2x512x256) ![0, 0, 0] S1x512x256.size inb_S2x512x256_S1x512x256_0_0_0).set := by
  intro y h
  have hy0 : (y 0).val < 2 := (y 0).isLt
  have hy1 : (y 1).val < 512 := (y 1).isLt
  have hy2 : (y 2).val < 256 := (y 2).isLt
  by_cases hz : (y 0).val = 0
  · refine Rect.mem_set_unit.mpr fun d => ?_
    fin_cases d
    · exact ⟨Nat.zero_le _, show (y 0).val < 0 + 1 by omega⟩
    · exact ⟨Nat.zero_le _, show (y 1).val < 0 + 512 by omega⟩
    · exact ⟨Nat.zero_le _, show (y 2).val < 0 + 256 by omega⟩
  · refine absurd (Rect.mem_set_unit.mpr fun d => ?_) h
    fin_cases d
    · exact ⟨show 1 ≤ (y 0).val by omega, show (y 0).val < 1 + 1 by omega⟩
    · exact ⟨Nat.zero_le _, show (y 1).val < 0 + 512 by omega⟩
    · exact ⟨Nat.zero_le _, show (y 2).val < 0 + 256 by omega⟩

/-- Two payloads of this shape, one per query half. -/
abbrev two256 (a b : Vec F S1x512x256 .f32) : Vec F S2x512x256 .f32 := two (Rect.unit (s := S2x512x256) ![0, 0, 0] S1x512x256.size inb_S2x512x256_S1x512x256_0_0_0) (Rect.unit (s := S2x512x256) ![1, 0, 0] S1x512x256.size inb_S2x512x256_S1x512x256_1_0_0) a b

theorem ld256_0 (a b : Vec F S1x512x256 .f32) : View.ld (Val := Elt F) (e' := .f32) (two256 a b) (Rect.unit (s := S2x512x256) ![0, 0, 0] S1x512x256.size inb_S2x512x256_S1x512x256_0_0_0) = a := ld_two0 (r0 := (Rect.unit (s := S2x512x256) ![0, 0, 0] S1x512x256.size inb_S2x512x256_S1x512x256_0_0_0)) (r1 := (Rect.unit (s := S2x512x256) ![1, 0, 0] S1x512x256.size inb_S2x512x256_S1x512x256_1_0_0)) disj256 a b
theorem ld256_1 (a b : Vec F S1x512x256 .f32) : View.ld (Val := Elt F) (e' := .f32) (two256 a b) (Rect.unit (s := S2x512x256) ![1, 0, 0] S1x512x256.size inb_S2x512x256_S1x512x256_1_0_0) = b := ld_two1 (r0 := (Rect.unit (s := S2x512x256) ![0, 0, 0] S1x512x256.size inb_S2x512x256_S1x512x256_0_0_0)) (r1 := (Rect.unit (s := S2x512x256) ![1, 0, 0] S1x512x256.size inb_S2x512x256_S1x512x256_1_0_0)) a b

theorem disj512 : Disjoint (Rect.unit (s := S2x512x512) ![1, 0, 0] S1x512x512.size inb_S2x512x512_S1x512x512_1_0_0).set (Rect.unit (s := S2x512x512) ![0, 0, 0] S1x512x512.size inb_S2x512x512_S1x512x512_0_0_0).set := by
  rw [Finset.disjoint_left]; intro y h1 h0
  have h1 := (Rect.mem_set_unit.mp h1 0).1
  have h0 := (Rect.mem_set_unit.mp h0 0).2
  have e1 : 1 ≤ (y 0).val := h1
  have e0 : (y 0).val < 1 := h0
  omega

theorem cover512 : ∀ y, y ∉ (Rect.unit (s := S2x512x512) ![1, 0, 0] S1x512x512.size inb_S2x512x512_S1x512x512_1_0_0).set → y ∈ (Rect.unit (s := S2x512x512) ![0, 0, 0] S1x512x512.size inb_S2x512x512_S1x512x512_0_0_0).set := by
  intro y h
  have hy0 : (y 0).val < 2 := (y 0).isLt
  have hy1 : (y 1).val < 512 := (y 1).isLt
  have hy2 : (y 2).val < 512 := (y 2).isLt
  by_cases hz : (y 0).val = 0
  · refine Rect.mem_set_unit.mpr fun d => ?_
    fin_cases d
    · exact ⟨Nat.zero_le _, show (y 0).val < 0 + 1 by omega⟩
    · exact ⟨Nat.zero_le _, show (y 1).val < 0 + 512 by omega⟩
    · exact ⟨Nat.zero_le _, show (y 2).val < 0 + 512 by omega⟩
  · refine absurd (Rect.mem_set_unit.mpr fun d => ?_) h
    fin_cases d
    · exact ⟨show 1 ≤ (y 0).val by omega, show (y 0).val < 1 + 1 by omega⟩
    · exact ⟨Nat.zero_le _, show (y 1).val < 0 + 512 by omega⟩
    · exact ⟨Nat.zero_le _, show (y 2).val < 0 + 512 by omega⟩

/-- Two payloads of this shape, one per query half. -/
abbrev two512 (a b : Vec F S1x512x512 .f32) : Vec F S2x512x512 .f32 := two (Rect.unit (s := S2x512x512) ![0, 0, 0] S1x512x512.size inb_S2x512x512_S1x512x512_0_0_0) (Rect.unit (s := S2x512x512) ![1, 0, 0] S1x512x512.size inb_S2x512x512_S1x512x512_1_0_0) a b

theorem ld512_0 (a b : Vec F S1x512x512 .f32) : View.ld (Val := Elt F) (e' := .f32) (two512 a b) (Rect.unit (s := S2x512x512) ![0, 0, 0] S1x512x512.size inb_S2x512x512_S1x512x512_0_0_0) = a := ld_two0 (r0 := (Rect.unit (s := S2x512x512) ![0, 0, 0] S1x512x512.size inb_S2x512x512_S1x512x512_0_0_0)) (r1 := (Rect.unit (s := S2x512x512) ![1, 0, 0] S1x512x512.size inb_S2x512x512_S1x512x512_1_0_0)) disj512 a b
theorem ld512_1 (a b : Vec F S1x512x512 .f32) : View.ld (Val := Elt F) (e' := .f32) (two512 a b) (Rect.unit (s := S2x512x512) ![1, 0, 0] S1x512x512.size inb_S2x512x512_S1x512x512_1_0_0) = b := ld_two1 (r0 := (Rect.unit (s := S2x512x512) ![0, 0, 0] S1x512x512.size inb_S2x512x512_S1x512x512_0_0_0)) (r1 := (Rect.unit (s := S2x512x512) ![1, 0, 0] S1x512x512.size inb_S2x512x512_S1x512x512_1_0_0)) a b

/-- An array of the two halves' shape is its two halves. -/
theorem eta1 (X : Vec F S2x512x1 .f32) : X = two1 (View.ld (Val := Elt F) (e' := .f32) X (Rect.unit (s := S2x512x1) ![0, 0, 0] S1x512x1.size inb_S2x512x1_S1x512x1_0_0_0)) (View.ld (Val := Elt F) (e' := .f32) X (Rect.unit (s := S2x512x1) ![1, 0, 0] S1x512x1.size inb_S2x512x1_S1x512x1_1_0_0)) :=
  eta_two (r0 := (Rect.unit (s := S2x512x1) ![0, 0, 0] S1x512x1.size inb_S2x512x1_S1x512x1_0_0_0)) (r1 := (Rect.unit (s := S2x512x1) ![1, 0, 0] S1x512x1.size inb_S2x512x1_S1x512x1_1_0_0)) cover1 X
theorem at1_0 {κ : Kind} {sp : Space} (v : View sig κ sp S2x512x1 .f32) (f : v.ty.Contents (Elt F)) {a b : Vec F S1x512x1 .f32} (h : v.read (Elt F) f = two1 a b) :
    v.readAt (Elt F) (Rect.unit (s := S2x512x1) ![0, 0, 0] S1x512x1.size inb_S2x512x1_S1x512x1_0_0_0).toLoadRect f = a := by
  rw [View.readAt_eq_ld, h]; exact ld1_0 a b
theorem at1_1 {κ : Kind} {sp : Space} (v : View sig κ sp S2x512x1 .f32) (f : v.ty.Contents (Elt F)) {a b : Vec F S1x512x1 .f32} (h : v.read (Elt F) f = two1 a b) :
    v.readAt (Elt F) (Rect.unit (s := S2x512x1) ![1, 0, 0] S1x512x1.size inb_S2x512x1_S1x512x1_1_0_0).toLoadRect f = b := by
  rw [View.readAt_eq_ld, h]; exact ld1_1 a b
theorem slc1 {κ : Kind} {sp : Space} (v : View sig κ sp S2x512x1 .f32) (a b : Vec F S1x512x1 .f32) (L : List (View.Piece (Elt F) S2x512x1 .f32)) (r : Rect S2x512x1) :
    v.readCov (Val := Elt F) (⟨(Rect.unit (s := S2x512x1) ![1, 0, 0] S1x512x1.size inb_S2x512x1_S1x512x1_1_0_0), b⟩ :: ⟨(Rect.unit (s := S2x512x1) ![0, 0, 0] S1x512x1.size inb_S2x512x1_S1x512x1_0_0_0), a⟩ :: L) r.toLoadRect = View.ld (Val := Elt F) (e' := .f32) (two1 a b) r := by
  rw [View.readCov_eq_canon_ld _ _ _ (fun y => by
    by_cases h : y ∈ ((Rect.unit (s := S2x512x1) ![1, 0, 0] S1x512x1.size inb_S2x512x1_S1x512x1_1_0_0)).set
    · exact ⟨_, List.mem_cons_self, h⟩
    · exact ⟨_, List.mem_cons_of_mem _ List.mem_cons_self, cover1 y h⟩), canon_two cover1]
theorem lst1_0 {κ : Kind} {sp : Space} (v : View sig κ sp S2x512x1 .f32) (a : Vec F S1x512x1 .f32) (L : List (View.Piece (Elt F) S2x512x1 .f32)) :
    v.readCov (Val := Elt F) (⟨(Rect.unit (s := S2x512x1) ![0, 0, 0] S1x512x1.size inb_S2x512x1_S1x512x1_0_0_0), a⟩ :: L) (Rect.unit (s := S2x512x1) ![0, 0, 0] S1x512x1.size inb_S2x512x1_S1x512x1_0_0_0).toLoadRect = a := View.readCov_cons_toLoadRect v (Rect.unit (s := S2x512x1) ![0, 0, 0] S1x512x1.size inb_S2x512x1_S1x512x1_0_0_0) a L
theorem lst1_1 {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] S1x512x1.size inb_S2x512x1_S1x512x1_1_0_0), b⟩ :: L) (Rect.unit (s := S2x512x1) ![1, 0, 0] S1x512x1.size inb_S2x512x1_S1x512x1_1_0_0).toLoadRect = b := View.readCov_cons_toLoadRect v (Rect.unit (s := S2x512x1) ![1, 0, 0] S1x512x1.size inb_S2x512x1_S1x512x1_1_0_0) b L
theorem cov1_0 {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] S1x512x1.size inb_S2x512x1_S1x512x1_1_0_0), b⟩ :: L) (Rect.unit (s := S2x512x1) ![0, 0, 0] S1x512x1.size inb_S2x512x1_S1x512x1_0_0_0).toLoadRect = v.readCov L (Rect.unit (s := S2x512x1) ![0, 0, 0] S1x512x1.size inb_S2x512x1_S1x512x1_0_0_0).toLoadRect := cov_other disj1 v b L
theorem cov1_1 {κ : Kind} {sp : Space} (v : View sig κ sp S2x512x1 .f32) (b : Vec F S1x512x1 .f32) (L : List (View.Piece (Elt F) S2x512x1 .f32)) :
    v.readCov (Val := Elt F) (⟨(Rect.unit (s := S2x512x1) ![0, 0, 0] S1x512x1.size inb_S2x512x1_S1x512x1_0_0_0), b⟩ :: L) (Rect.unit (s := S2x512x1) ![1, 0, 0] S1x512x1.size inb_S2x512x1_S1x512x1_1_0_0).toLoadRect = v.readCov L (Rect.unit (s := S2x512x1) ![1, 0, 0] S1x512x1.size inb_S2x512x1_S1x512x1_1_0_0).toLoadRect := cov_other disj1.symm v b L
theorem lst1_0' {κ : Kind} {sp : Space} (v : View sig κ sp S2x512x1 .f32) (a : Vec F S1x512x1 .f32) (L : List (View.Piece (Elt F) S2x512x1 .f32)) :
    v.readCov (Val := Elt F) (⟨(Rect.unit (s := S2x512x1) ![0, 0, 0] S1x512x1.size inb_S2x512x1_S1x512x1_0_0_0), a⟩ :: L) (Rect.unit (s := S2x512x1) ![0, 0, 0] ![1, 512, 1] inb_S2x512x1_S1x512x1_0_0_0).toLoadRect = a := View.readCov_cons_toLoadRect v (Rect.unit (s := S2x512x1) ![0, 0, 0] S1x512x1.size inb_S2x512x1_S1x512x1_0_0_0) a L
theorem lst1_1' {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] S1x512x1.size inb_S2x512x1_S1x512x1_1_0_0), b⟩ :: L) (Rect.unit (s := S2x512x1) ![1, 0, 0] ![1, 512, 1] inb_S2x512x1_S1x512x1_1_0_0).toLoadRect = b := View.readCov_cons_toLoadRect v (Rect.unit (s := S2x512x1) ![1, 0, 0] S1x512x1.size inb_S2x512x1_S1x512x1_1_0_0) b L
theorem cov1_0' {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] S1x512x1.size inb_S2x512x1_S1x512x1_1_0_0), b⟩ :: L) (Rect.unit (s := S2x512x1) ![0, 0, 0] ![1, 512, 1] inb_S2x512x1_S1x512x1_0_0_0).toLoadRect = v.readCov L (Rect.unit (s := S2x512x1) ![0, 0, 0] ![1, 512, 1] inb_S2x512x1_S1x512x1_0_0_0).toLoadRect := cov_other disj1 v b L
theorem cov1_1' {κ : Kind} {sp : Space} (v : View sig κ sp S2x512x1 .f32) (b : Vec F S1x512x1 .f32) (L : List (View.Piece (Elt F) S2x512x1 .f32)) :
    v.readCov (Val := Elt F) (⟨(Rect.unit (s := S2x512x1) ![0, 0, 0] S1x512x1.size inb_S2x512x1_S1x512x1_0_0_0), b⟩ :: L) (Rect.unit (s := S2x512x1) ![1, 0, 0] ![1, 512, 1] inb_S2x512x1_S1x512x1_1_0_0).toLoadRect = v.readCov L (Rect.unit (s := S2x512x1) ![1, 0, 0] ![1, 512, 1] inb_S2x512x1_S1x512x1_1_0_0).toLoadRect := cov_other disj1.symm v b L
theorem lst1_0'' {κ : Kind} {sp : Space} (v : View sig κ sp S2x512x1 .f32) (a : Vec F S1x512x1 .f32) (L : List (View.Piece (Elt F) S2x512x1 .f32)) :
    v.readCov (Val := Elt F) (⟨(Rect.unit (s := S2x512x1) ![0, 0, 0] ![1, 512, 1] inb_S2x512x1_S1x512x1_0_0_0), a⟩ :: L) (Rect.unit (s := S2x512x1) ![0, 0, 0] ![1, 512, 1] inb_S2x512x1_S1x512x1_0_0_0).toLoadRect = a := View.readCov_cons_toLoadRect v (Rect.unit (s := S2x512x1) ![0, 0, 0] ![1, 512, 1] inb_S2x512x1_S1x512x1_0_0_0) a L
theorem lst1_1'' {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] ![1, 512, 1] inb_S2x512x1_S1x512x1_1_0_0), b⟩ :: L) (Rect.unit (s := S2x512x1) ![1, 0, 0] ![1, 512, 1] inb_S2x512x1_S1x512x1_1_0_0).toLoadRect = b := View.readCov_cons_toLoadRect v (Rect.unit (s := S2x512x1) ![1, 0, 0] ![1, 512, 1] inb_S2x512x1_S1x512x1_1_0_0) b L
theorem cov1_0'' {κ : Kind} {sp : Space} (v : View sig κ sp S2x512x1 .f32) (b : Vec F S1x512x1 .f32) (L : List (View.Piece (Elt F) S2x512x1 .f32)) :
    v.readCov (Val := Elt F) (⟨(Rect.unit (s := S2x512x1) ![1, 0, 0] ![1, 512, 1] inb_S2x512x1_S1x512x1_1_0_0), b⟩ :: L) (Rect.unit (s := S2x512x1) ![0, 0, 0] ![1, 512, 1] inb_S2x512x1_S1x512x1_0_0_0).toLoadRect = v.readCov L (Rect.unit (s := S2x512x1) ![0, 0, 0] ![1, 512, 1] inb_S2x512x1_S1x512x1_0_0_0).toLoadRect := cov_other disj1 v b L
theorem cov1_1'' {κ : Kind} {sp : Space} (v : View sig κ sp S2x512x1 .f32) (b : Vec F S1x512x1 .f32) (L : List (View.Piece (Elt F) S2x512x1 .f32)) :
    v.readCov (Val := Elt F) (⟨(Rect.unit (s := S2x512x1) ![0, 0, 0] ![1, 512, 1] inb_S2x512x1_S1x512x1_0_0_0), b⟩ :: L) (Rect.unit (s := S2x512x1) ![1, 0, 0] ![1, 512, 1] inb_S2x512x1_S1x512x1_1_0_0).toLoadRect = v.readCov L (Rect.unit (s := S2x512x1) ![1, 0, 0] ![1, 512, 1] inb_S2x512x1_S1x512x1_1_0_0).toLoadRect := cov_other disj1.symm v b L

/-- An array of the two halves' shape is its two halves. -/
theorem eta256 (X : Vec F S2x512x256 .f32) : X = two256 (View.ld (Val := Elt F) (e' := .f32) X (Rect.unit (s := S2x512x256) ![0, 0, 0] S1x512x256.size inb_S2x512x256_S1x512x256_0_0_0)) (View.ld (Val := Elt F) (e' := .f32) X (Rect.unit (s := S2x512x256) ![1, 0, 0] S1x512x256.size inb_S2x512x256_S1x512x256_1_0_0)) :=
  eta_two (r0 := (Rect.unit (s := S2x512x256) ![0, 0, 0] S1x512x256.size inb_S2x512x256_S1x512x256_0_0_0)) (r1 := (Rect.unit (s := S2x512x256) ![1, 0, 0] S1x512x256.size inb_S2x512x256_S1x512x256_1_0_0)) cover256 X
theorem at256_0 {κ : Kind} {sp : Space} (v : View sig κ sp S2x512x256 .f32) (f : v.ty.Contents (Elt F)) {a b : Vec F S1x512x256 .f32} (h : v.read (Elt F) f = two256 a b) :
    v.readAt (Elt F) (Rect.unit (s := S2x512x256) ![0, 0, 0] S1x512x256.size inb_S2x512x256_S1x512x256_0_0_0).toLoadRect f = a := by
  rw [View.readAt_eq_ld, h]; exact ld256_0 a b
theorem at256_1 {κ : Kind} {sp : Space} (v : View sig κ sp S2x512x256 .f32) (f : v.ty.Contents (Elt F)) {a b : Vec F S1x512x256 .f32} (h : v.read (Elt F) f = two256 a b) :
    v.readAt (Elt F) (Rect.unit (s := S2x512x256) ![1, 0, 0] S1x512x256.size inb_S2x512x256_S1x512x256_1_0_0).toLoadRect f = b := by
  rw [View.readAt_eq_ld, h]; exact ld256_1 a b
theorem slc256 {κ : Kind} {sp : Space} (v : View sig κ sp S2x512x256 .f32) (a b : Vec F S1x512x256 .f32) (L : List (View.Piece (Elt F) S2x512x256 .f32)) (r : Rect S2x512x256) :
    v.readCov (Val := Elt F) (⟨(Rect.unit (s := S2x512x256) ![1, 0, 0] S1x512x256.size inb_S2x512x256_S1x512x256_1_0_0), b⟩ :: ⟨(Rect.unit (s := S2x512x256) ![0, 0, 0] S1x512x256.size inb_S2x512x256_S1x512x256_0_0_0), a⟩ :: L) r.toLoadRect = View.ld (Val := Elt F) (e' := .f32) (two256 a b) r := by
  rw [View.readCov_eq_canon_ld _ _ _ (fun y => by
    by_cases h : y ∈ ((Rect.unit (s := S2x512x256) ![1, 0, 0] S1x512x256.size inb_S2x512x256_S1x512x256_1_0_0)).set
    · exact ⟨_, List.mem_cons_self, h⟩
    · exact ⟨_, List.mem_cons_of_mem _ List.mem_cons_self, cover256 y h⟩), canon_two cover256]
theorem lst256_0 {κ : Kind} {sp : Space} (v : View sig κ sp S2x512x256 .f32) (a : Vec F S1x512x256 .f32) (L : List (View.Piece (Elt F) S2x512x256 .f32)) :
    v.readCov (Val := Elt F) (⟨(Rect.unit (s := S2x512x256) ![0, 0, 0] S1x512x256.size inb_S2x512x256_S1x512x256_0_0_0), a⟩ :: L) (Rect.unit (s := S2x512x256) ![0, 0, 0] S1x512x256.size inb_S2x512x256_S1x512x256_0_0_0).toLoadRect = a := View.readCov_cons_toLoadRect v (Rect.unit (s := S2x512x256) ![0, 0, 0] S1x512x256.size inb_S2x512x256_S1x512x256_0_0_0) a L
theorem lst256_1 {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] S1x512x256.size inb_S2x512x256_S1x512x256_1_0_0), b⟩ :: L) (Rect.unit (s := S2x512x256) ![1, 0, 0] S1x512x256.size inb_S2x512x256_S1x512x256_1_0_0).toLoadRect = b := View.readCov_cons_toLoadRect v (Rect.unit (s := S2x512x256) ![1, 0, 0] S1x512x256.size inb_S2x512x256_S1x512x256_1_0_0) b L
theorem cov256_0 {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] S1x512x256.size inb_S2x512x256_S1x512x256_1_0_0), b⟩ :: L) (Rect.unit (s := S2x512x256) ![0, 0, 0] S1x512x256.size inb_S2x512x256_S1x512x256_0_0_0).toLoadRect = v.readCov L (Rect.unit (s := S2x512x256) ![0, 0, 0] S1x512x256.size inb_S2x512x256_S1x512x256_0_0_0).toLoadRect := cov_other disj256 v b L
theorem cov256_1 {κ : Kind} {sp : Space} (v : View sig κ sp S2x512x256 .f32) (b : Vec F S1x512x256 .f32) (L : List (View.Piece (Elt F) S2x512x256 .f32)) :
    v.readCov (Val := Elt F) (⟨(Rect.unit (s := S2x512x256) ![0, 0, 0] S1x512x256.size inb_S2x512x256_S1x512x256_0_0_0), b⟩ :: L) (Rect.unit (s := S2x512x256) ![1, 0, 0] S1x512x256.size inb_S2x512x256_S1x512x256_1_0_0).toLoadRect = v.readCov L (Rect.unit (s := S2x512x256) ![1, 0, 0] S1x512x256.size inb_S2x512x256_S1x512x256_1_0_0).toLoadRect := cov_other disj256.symm v b L
theorem lst256_0' {κ : Kind} {sp : Space} (v : View sig κ sp S2x512x256 .f32) (a : Vec F S1x512x256 .f32) (L : List (View.Piece (Elt F) S2x512x256 .f32)) :
    v.readCov (Val := Elt F) (⟨(Rect.unit (s := S2x512x256) ![0, 0, 0] S1x512x256.size inb_S2x512x256_S1x512x256_0_0_0), a⟩ :: L) (Rect.unit (s := S2x512x256) ![0, 0, 0] ![1, 512, 256] inb_S2x512x256_S1x512x256_0_0_0).toLoadRect = a := View.readCov_cons_toLoadRect v (Rect.unit (s := S2x512x256) ![0, 0, 0] S1x512x256.size inb_S2x512x256_S1x512x256_0_0_0) a L
theorem lst256_1' {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] S1x512x256.size inb_S2x512x256_S1x512x256_1_0_0), b⟩ :: L) (Rect.unit (s := S2x512x256) ![1, 0, 0] ![1, 512, 256] inb_S2x512x256_S1x512x256_1_0_0).toLoadRect = b := View.readCov_cons_toLoadRect v (Rect.unit (s := S2x512x256) ![1, 0, 0] S1x512x256.size inb_S2x512x256_S1x512x256_1_0_0) b L
theorem cov256_0' {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] S1x512x256.size inb_S2x512x256_S1x512x256_1_0_0), b⟩ :: L) (Rect.unit (s := S2x512x256) ![0, 0, 0] ![1, 512, 256] inb_S2x512x256_S1x512x256_0_0_0).toLoadRect = v.readCov L (Rect.unit (s := S2x512x256) ![0, 0, 0] ![1, 512, 256] inb_S2x512x256_S1x512x256_0_0_0).toLoadRect := cov_other disj256 v b L
theorem cov256_1' {κ : Kind} {sp : Space} (v : View sig κ sp S2x512x256 .f32) (b : Vec F S1x512x256 .f32) (L : List (View.Piece (Elt F) S2x512x256 .f32)) :
    v.readCov (Val := Elt F) (⟨(Rect.unit (s := S2x512x256) ![0, 0, 0] S1x512x256.size inb_S2x512x256_S1x512x256_0_0_0), b⟩ :: L) (Rect.unit (s := S2x512x256) ![1, 0, 0] ![1, 512, 256] inb_S2x512x256_S1x512x256_1_0_0).toLoadRect = v.readCov L (Rect.unit (s := S2x512x256) ![1, 0, 0] ![1, 512, 256] inb_S2x512x256_S1x512x256_1_0_0).toLoadRect := cov_other disj256.symm v b L
theorem lst256_0'' {κ : Kind} {sp : Space} (v : View sig κ sp S2x512x256 .f32) (a : Vec F S1x512x256 .f32) (L : List (View.Piece (Elt F) S2x512x256 .f32)) :
    v.readCov (Val := Elt F) (⟨(Rect.unit (s := S2x512x256) ![0, 0, 0] ![1, 512, 256] inb_S2x512x256_S1x512x256_0_0_0), a⟩ :: L) (Rect.unit (s := S2x512x256) ![0, 0, 0] ![1, 512, 256] inb_S2x512x256_S1x512x256_0_0_0).toLoadRect = a := View.readCov_cons_toLoadRect v (Rect.unit (s := S2x512x256) ![0, 0, 0] ![1, 512, 256] inb_S2x512x256_S1x512x256_0_0_0) a L
theorem lst256_1'' {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] ![1, 512, 256] inb_S2x512x256_S1x512x256_1_0_0), b⟩ :: L) (Rect.unit (s := S2x512x256) ![1, 0, 0] ![1, 512, 256] inb_S2x512x256_S1x512x256_1_0_0).toLoadRect = b := View.readCov_cons_toLoadRect v (Rect.unit (s := S2x512x256) ![1, 0, 0] ![1, 512, 256] inb_S2x512x256_S1x512x256_1_0_0) b L
theorem cov256_0'' {κ : Kind} {sp : Space} (v : View sig κ sp S2x512x256 .f32) (b : Vec F S1x512x256 .f32) (L : List (View.Piece (Elt F) S2x512x256 .f32)) :
    v.readCov (Val := Elt F) (⟨(Rect.unit (s := S2x512x256) ![1, 0, 0] ![1, 512, 256] inb_S2x512x256_S1x512x256_1_0_0), b⟩ :: L) (Rect.unit (s := S2x512x256) ![0, 0, 0] ![1, 512, 256] inb_S2x512x256_S1x512x256_0_0_0).toLoadRect = v.readCov L (Rect.unit (s := S2x512x256) ![0, 0, 0] ![1, 512, 256] inb_S2x512x256_S1x512x256_0_0_0).toLoadRect := cov_other disj256 v b L
theorem cov256_1'' {κ : Kind} {sp : Space} (v : View sig κ sp S2x512x256 .f32) (b : Vec F S1x512x256 .f32) (L : List (View.Piece (Elt F) S2x512x256 .f32)) :
    v.readCov (Val := Elt F) (⟨(Rect.unit (s := S2x512x256) ![0, 0, 0] ![1, 512, 256] inb_S2x512x256_S1x512x256_0_0_0), b⟩ :: L) (Rect.unit (s := S2x512x256) ![1, 0, 0] ![1, 512, 256] inb_S2x512x256_S1x512x256_1_0_0).toLoadRect = v.readCov L (Rect.unit (s := S2x512x256) ![1, 0, 0] ![1, 512, 256] inb_S2x512x256_S1x512x256_1_0_0).toLoadRect := cov_other disj256.symm v b L

/-- An array of the two halves' shape is its two halves. -/
theorem eta512 (X : Vec F S2x512x512 .f32) : X = two512 (View.ld (Val := Elt F) (e' := .f32) X (Rect.unit (s := S2x512x512) ![0, 0, 0] S1x512x512.size inb_S2x512x512_S1x512x512_0_0_0)) (View.ld (Val := Elt F) (e' := .f32) X (Rect.unit (s := S2x512x512) ![1, 0, 0] S1x512x512.size inb_S2x512x512_S1x512x512_1_0_0)) :=
  eta_two (r0 := (Rect.unit (s := S2x512x512) ![0, 0, 0] S1x512x512.size inb_S2x512x512_S1x512x512_0_0_0)) (r1 := (Rect.unit (s := S2x512x512) ![1, 0, 0] S1x512x512.size inb_S2x512x512_S1x512x512_1_0_0)) cover512 X
theorem at512_0 {κ : Kind} {sp : Space} (v : View sig κ sp S2x512x512 .f32) (f : v.ty.Contents (Elt F)) {a b : Vec F S1x512x512 .f32} (h : v.read (Elt F) f = two512 a b) :
    v.readAt (Elt F) (Rect.unit (s := S2x512x512) ![0, 0, 0] S1x512x512.size inb_S2x512x512_S1x512x512_0_0_0).toLoadRect f = a := by
  rw [View.readAt_eq_ld, h]; exact ld512_0 a b
theorem at512_1 {κ : Kind} {sp : Space} (v : View sig κ sp S2x512x512 .f32) (f : v.ty.Contents (Elt F)) {a b : Vec F S1x512x512 .f32} (h : v.read (Elt F) f = two512 a b) :
    v.readAt (Elt F) (Rect.unit (s := S2x512x512) ![1, 0, 0] S1x512x512.size inb_S2x512x512_S1x512x512_1_0_0).toLoadRect f = b := by
  rw [View.readAt_eq_ld, h]; exact ld512_1 a b
theorem slc512 {κ : Kind} {sp : Space} (v : View sig κ sp S2x512x512 .f32) (a b : Vec F S1x512x512 .f32) (L : List (View.Piece (Elt F) S2x512x512 .f32)) (r : Rect S2x512x512) :
    v.readCov (Val := Elt F) (⟨(Rect.unit (s := S2x512x512) ![1, 0, 0] S1x512x512.size inb_S2x512x512_S1x512x512_1_0_0), b⟩ :: ⟨(Rect.unit (s := S2x512x512) ![0, 0, 0] S1x512x512.size inb_S2x512x512_S1x512x512_0_0_0), a⟩ :: L) r.toLoadRect = View.ld (Val := Elt F) (e' := .f32) (two512 a b) r := by
  rw [View.readCov_eq_canon_ld _ _ _ (fun y => by
    by_cases h : y ∈ ((Rect.unit (s := S2x512x512) ![1, 0, 0] S1x512x512.size inb_S2x512x512_S1x512x512_1_0_0)).set
    · exact ⟨_, List.mem_cons_self, h⟩
    · exact ⟨_, List.mem_cons_of_mem _ List.mem_cons_self, cover512 y h⟩), canon_two cover512]
theorem lst512_0 {κ : Kind} {sp : Space} (v : View sig κ sp S2x512x512 .f32) (a : Vec F S1x512x512 .f32) (L : List (View.Piece (Elt F) S2x512x512 .f32)) :
    v.readCov (Val := Elt F) (⟨(Rect.unit (s := S2x512x512) ![0, 0, 0] S1x512x512.size inb_S2x512x512_S1x512x512_0_0_0), a⟩ :: L) (Rect.unit (s := S2x512x512) ![0, 0, 0] S1x512x512.size inb_S2x512x512_S1x512x512_0_0_0).toLoadRect = a := View.readCov_cons_toLoadRect v (Rect.unit (s := S2x512x512) ![0, 0, 0] S1x512x512.size inb_S2x512x512_S1x512x512_0_0_0) a L
theorem lst512_1 {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] S1x512x512.size inb_S2x512x512_S1x512x512_1_0_0), b⟩ :: L) (Rect.unit (s := S2x512x512) ![1, 0, 0] S1x512x512.size inb_S2x512x512_S1x512x512_1_0_0).toLoadRect = b := View.readCov_cons_toLoadRect v (Rect.unit (s := S2x512x512) ![1, 0, 0] S1x512x512.size inb_S2x512x512_S1x512x512_1_0_0) b L
theorem cov512_0 {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] S1x512x512.size inb_S2x512x512_S1x512x512_1_0_0), b⟩ :: L) (Rect.unit (s := S2x512x512) ![0, 0, 0] S1x512x512.size inb_S2x512x512_S1x512x512_0_0_0).toLoadRect = v.readCov L (Rect.unit (s := S2x512x512) ![0, 0, 0] S1x512x512.size inb_S2x512x512_S1x512x512_0_0_0).toLoadRect := cov_other disj512 v b L
theorem cov512_1 {κ : Kind} {sp : Space} (v : View sig κ sp S2x512x512 .f32) (b : Vec F S1x512x512 .f32) (L : List (View.Piece (Elt F) S2x512x512 .f32)) :
    v.readCov (Val := Elt F) (⟨(Rect.unit (s := S2x512x512) ![0, 0, 0] S1x512x512.size inb_S2x512x512_S1x512x512_0_0_0), b⟩ :: L) (Rect.unit (s := S2x512x512) ![1, 0, 0] S1x512x512.size inb_S2x512x512_S1x512x512_1_0_0).toLoadRect = v.readCov L (Rect.unit (s := S2x512x512) ![1, 0, 0] S1x512x512.size inb_S2x512x512_S1x512x512_1_0_0).toLoadRect := cov_other disj512.symm v b L
theorem lst512_0' {κ : Kind} {sp : Space} (v : View sig κ sp S2x512x512 .f32) (a : Vec F S1x512x512 .f32) (L : List (View.Piece (Elt F) S2x512x512 .f32)) :
    v.readCov (Val := Elt F) (⟨(Rect.unit (s := S2x512x512) ![0, 0, 0] S1x512x512.size inb_S2x512x512_S1x512x512_0_0_0), a⟩ :: L) (Rect.unit (s := S2x512x512) ![0, 0, 0] ![1, 512, 512] inb_S2x512x512_S1x512x512_0_0_0).toLoadRect = a := View.readCov_cons_toLoadRect v (Rect.unit (s := S2x512x512) ![0, 0, 0] S1x512x512.size inb_S2x512x512_S1x512x512_0_0_0) a L
theorem lst512_1' {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] S1x512x512.size inb_S2x512x512_S1x512x512_1_0_0), b⟩ :: L) (Rect.unit (s := S2x512x512) ![1, 0, 0] ![1, 512, 512] inb_S2x512x512_S1x512x512_1_0_0).toLoadRect = b := View.readCov_cons_toLoadRect v (Rect.unit (s := S2x512x512) ![1, 0, 0] S1x512x512.size inb_S2x512x512_S1x512x512_1_0_0) b L
theorem cov512_0' {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] S1x512x512.size inb_S2x512x512_S1x512x512_1_0_0), b⟩ :: L) (Rect.unit (s := S2x512x512) ![0, 0, 0] ![1, 512, 512] inb_S2x512x512_S1x512x512_0_0_0).toLoadRect = v.readCov L (Rect.unit (s := S2x512x512) ![0, 0, 0] ![1, 512, 512] inb_S2x512x512_S1x512x512_0_0_0).toLoadRect := cov_other disj512 v b L
theorem cov512_1' {κ : Kind} {sp : Space} (v : View sig κ sp S2x512x512 .f32) (b : Vec F S1x512x512 .f32) (L : List (View.Piece (Elt F) S2x512x512 .f32)) :
    v.readCov (Val := Elt F) (⟨(Rect.unit (s := S2x512x512) ![0, 0, 0] S1x512x512.size inb_S2x512x512_S1x512x512_0_0_0), b⟩ :: L) (Rect.unit (s := S2x512x512) ![1, 0, 0] ![1, 512, 512] inb_S2x512x512_S1x512x512_1_0_0).toLoadRect = v.readCov L (Rect.unit (s := S2x512x512) ![1, 0, 0] ![1, 512, 512] inb_S2x512x512_S1x512x512_1_0_0).toLoadRect := cov_other disj512.symm v b L
theorem lst512_0'' {κ : Kind} {sp : Space} (v : View sig κ sp S2x512x512 .f32) (a : Vec F S1x512x512 .f32) (L : List (View.Piece (Elt F) S2x512x512 .f32)) :
    v.readCov (Val := Elt F) (⟨(Rect.unit (s := S2x512x512) ![0, 0, 0] ![1, 512, 512] inb_S2x512x512_S1x512x512_0_0_0), a⟩ :: L) (Rect.unit (s := S2x512x512) ![0, 0, 0] ![1, 512, 512] inb_S2x512x512_S1x512x512_0_0_0).toLoadRect = a := View.readCov_cons_toLoadRect v (Rect.unit (s := S2x512x512) ![0, 0, 0] ![1, 512, 512] inb_S2x512x512_S1x512x512_0_0_0) a L
theorem lst512_1'' {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] ![1, 512, 512] inb_S2x512x512_S1x512x512_1_0_0), b⟩ :: L) (Rect.unit (s := S2x512x512) ![1, 0, 0] ![1, 512, 512] inb_S2x512x512_S1x512x512_1_0_0).toLoadRect = b := View.readCov_cons_toLoadRect v (Rect.unit (s := S2x512x512) ![1, 0, 0] ![1, 512, 512] inb_S2x512x512_S1x512x512_1_0_0) b L
theorem cov512_0'' {κ : Kind} {sp : Space} (v : View sig κ sp S2x512x512 .f32) (b : Vec F S1x512x512 .f32) (L : List (View.Piece (Elt F) S2x512x512 .f32)) :
    v.readCov (Val := Elt F) (⟨(Rect.unit (s := S2x512x512) ![1, 0, 0] ![1, 512, 512] inb_S2x512x512_S1x512x512_1_0_0), b⟩ :: L) (Rect.unit (s := S2x512x512) ![0, 0, 0] ![1, 512, 512] inb_S2x512x512_S1x512x512_0_0_0).toLoadRect = v.readCov L (Rect.unit (s := S2x512x512) ![0, 0, 0] ![1, 512, 512] inb_S2x512x512_S1x512x512_0_0_0).toLoadRect := cov_other disj512 v b L
theorem cov512_1'' {κ : Kind} {sp : Space} (v : View sig κ sp S2x512x512 .f32) (b : Vec F S1x512x512 .f32) (L : List (View.Piece (Elt F) S2x512x512 .f32)) :
    v.readCov (Val := Elt F) (⟨(Rect.unit (s := S2x512x512) ![0, 0, 0] ![1, 512, 512] inb_S2x512x512_S1x512x512_0_0_0), b⟩ :: L) (Rect.unit (s := S2x512x512) ![1, 0, 0] ![1, 512, 512] inb_S2x512x512_S1x512x512_1_0_0).toLoadRect = v.readCov L (Rect.unit (s := S2x512x512) ![1, 0, 0] ![1, 512, 512] inb_S2x512x512_S1x512x512_1_0_0).toLoadRect := cov_other disj512.symm v b L

end Cert.KernelIdeal.Att
-- ==== Proof.State.lean ====
module
public import proofs.«01_k».proof.Proof.Half
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the kernel carries across its key chunks, one copy per query half: the running maxima, the weighted
    sums of the values with the weights' own sums beside them, and the scores of the chunk to come. -/
structure St (F : FTy → Type) where
  m0 : Vec F S1x512x1 .f32
  m1 : Vec F S1x512x1 .f32
  a0 : Vec F S1x512x256 .f32
  a1 : Vec F S1x512x256 .f32
  s0 : Vec F S1x512x512 .f32
  s1 : Vec F S1x512x512 .f32

/-- One trip of the loop over pairs of key chunks, on the carried state. -/
def trip (i : grid0.Coords) (v0 : BitVec 32) (v2 : Elt F .f32) (v11 v17 : FVec F S512x128 .bf16) (v21 : IVec S1x512 32)
    (x2 : Vec F S1x4096x128 .bf16) (x3 : Vec F S1x4096x256 .bf16) (k : Fin (k0_t1_loop i).trips) (s : St F) : St F :=
  let kc := View.ld (Val := Elt F) (e' := .bf16) x2 (Rect.unit (s := S1x4096x128) (k0_off3 i k 1#32) S1x512x128.size (k0_off3_inb i k 0))
  let t0 := k0_pay3 v11 kc
  let t1 := k0_pay4 v17 kc
  let vc := View.ld (Val := Elt F) (e' := .bf16) x3 (Rect.unit (s := S1x4096x256) (k0_off4 i k) S1x512x256.size (k0_off4_inb i k))
  let w := k0_pay5 vc
  let b := k0_pay6 i v0 v2 v21 0#32 1#32 k
  let b' := k0_pay8 i v0 v2 v21 0#32 1#32 k
  let p := k0_pay7 s.s0
  let m0 := k0_pay13 p b' s.m0
  let a0 := k0_pay12 w p b' s.m0 s.a0
  let m1 := k0_pay20 (k0_pay16 b s.s1 s.m1)
  let a1 := k0_pay19 w (k0_pay17 b s.s1 s.m1) (k0_pay18 b s.s1 s.m1) s.a1
  let kd := View.ld (Val := Elt F) (e' := .bf16) x2 (Rect.unit (s := S1x4096x128) (k0_off3 i k 2#32) S1x512x128.size (k0_off3_inb i k 1))
  let o := Scalar.addi (Scalar.muli 2#32 (Scf.iv 0#32 1#32 k)) 1#32
  let vd := View.ld (Val := Elt F) (e' := .bf16) x3 (Rect.unit (s := S1x4096x256) (k0_off5 i k) S1x512x256.size (k0_off5_inb i k))
  let b2 := k0_pay25 v0 v2 v21 o
  { m0 := k0_pay67 (k0_pay28 v0 v2 v21 o t0 m0)
    a0 := k0_pay29 v0 v2 v21 o vd t0 m0 a0
    m1 := k0_pay72 b2 t1 m1
    a1 := k0_pay71 (k0_pay24 vd) b2 t1 m1 a1
    s0 := k0_pay22 v11 kd
    s1 := k0_pay23 v17 kd }

/-- The first position of the query block. -/
def q0W (i : grid0.Coords) : BitVec 32 := Scalar.muli (BitVec.ofNat 32 (i 2).val) 512#32

/-- The slope of the block's head. -/
def slopeW (i : grid0.Coords) (x0 : Vec F S4 .f32) : Elt F .f32 :=
  View.ld (Val := Elt F) (e' := .f32) x0 (Rect.unit (s := S4) (k0_off1 i) S1.size (k0_off1_inb i)) (Shape.Idx.first (numel1_S1.symm ▸ Nat.one_pos))

/-- The columns of a chunk. -/
def colW : IVec S1x512 32 := iota .tc S1x512 32 [1] iota_S1x512_d1_w32

/-- How many pairs of key chunks the query block needs: the word the kernel computes for it. -/
def pairsW (i : grid0.Coords) : BitVec 32 :=
  let arg2 : BitVec 32 := BitVec.ofNat 32 (i 2).val
  let v0 : BitVec 32 := Scalar.muli arg2 512#32
  let v30 : BitVec 32 := Scalar.addi v0 512#32
  let v31 : BitVec 32 := Scalar.addi v30 512#32
  let v32 : BitVec 32 := Scalar.subi v31 1#32
  let v33 : BitVec 32 := Scalar.divsi v32 512#32
  let v34 : BitVec 1 := Scalar.cmpi .sgt v32 0#32
  let v35 : BitVec 32 := Scalar.extui v34
  let v36 : BitVec 1 := Scalar.cmpi .slt v32 0#32
  let v37 : BitVec 32 := Scalar.extui v36
  let v38 : BitVec 32 := Scalar.subi v35 v37
  let v39 : BitVec 1 := Scalar.cmpi .sgt 512#32 0#32
  let v40 : BitVec 32 := Scalar.extui v39
  let v41 : BitVec 1 := Scalar.cmpi .slt 512#32 0#32
  let v42 : BitVec 32 := Scalar.extui v41
  let v43 : BitVec 32 := Scalar.subi v40 v42
  let v44 : BitVec 1 := Scalar.cmpi .ne v38 v43
  let v45 : BitVec 32 := Scalar.remsi v32 512#32
  let v46 : BitVec 1 := Scalar.cmpi .ne v45 0#32
  let v47 : BitVec 1 := Scalar.andi v44 v46
  let v48 : BitVec 32 := Scalar.subi v33 1#32
  let v49 : BitVec 32 := Scalar.select v47 v48 v33
  let v50 : BitVec 32 := Scalar.addi v49 1#32
  let v51 : BitVec 32 := Scalar.divsi v50 2#32
  let v52 : BitVec 1 := Scalar.cmpi .sgt v50 0#32
  let v53 : BitVec 32 := Scalar.extui v52
  let v54 : BitVec 1 := Scalar.cmpi .slt v50 0#32
  let v55 : BitVec 32 := Scalar.extui v54
  let v56 : BitVec 32 := Scalar.subi v53 v55
  let v57 : BitVec 1 := Scalar.cmpi .sgt 2#32 0#32
  let v58 : BitVec 32 := Scalar.extui v57
  let v59 : BitVec 1 := Scalar.cmpi .slt 2#32 0#32
  let v60 : BitVec 32 := Scalar.extui v59
  let v61 : BitVec 32 := Scalar.subi v58 v60
  let v62 : BitVec 1 := Scalar.cmpi .ne v56 v61
  let v63 : BitVec 32 := Scalar.remsi v50 2#32
  let v64 : BitVec 1 := Scalar.cmpi .ne v63 0#32
  let v65 : BitVec 1 := Scalar.andi v62 v64
  let v66 : BitVec 32 := Scalar.subi v51 1#32
  let v67 : BitVec 32 := Scalar.select v65 v66 v51
  v67

/-- The number of the last pair's first chunk. -/
def lastW (i : grid0.Coords) : BitVec 32 := Scalar.muli 2#32 (Scalar.subi (pairsW i) 1#32)

/-- The two halves of the query block, each with the other half's columns zeroed. -/
def qa (x1 : Vec F S1x512x128 .bf16) : FVec F S512x128 .bf16 :=
  k0_pay59 (View.ld (Val := Elt F) (e' := .bf16) x1 (Rect.unit (s := S1x512x128) ![0, 0, 0] S1x512x128.size inb_S1x512x128_S1x512x128_0_0_0))
@[inherit_doc qa]
def qb (x1 : Vec F S1x512x128 .bf16) : FVec F S512x128 .bf16 :=
  k0_pay60 (View.ld (Val := Elt F) (e' := .bf16) x1 (Rect.unit (s := S1x512x128) ![0, 0, 0] S1x512x128.size inb_S1x512x128_S1x512x128_0_0_0))

/-- The carried state before the loop: no maximum yet, nothing summed, the first chunk's scores. -/
def initSt (i : grid0.Coords) (x1 : Vec F S1x512x128 .bf16) (x2 : Vec F S1x4096x128 .bf16) : St F :=
  let v74 := k0_pay64 (View.ld (Val := Elt F) (e' := .bf16) x2 (Rect.unit (s := S1x4096x128) (k0_off2 i) S1x512x128.size (k0_off2_inb i)))
  { m0 := View.ld (Val := Elt F) (e' := .f32) (k0_pay62 (F := F)) (Rect.unit (s := S2x512x1) ![0, 0, 0] S1x512x1.size inb_S2x512x1_S1x512x1_0_0_0)
    m1 := View.ld (Val := Elt F) (e' := .f32) (k0_pay62 (F := F)) (Rect.unit (s := S2x512x1) ![1, 0, 0] S1x512x1.size inb_S2x512x1_S1x512x1_1_0_0)
    a0 := View.ld (Val := Elt F) (e' := .f32) (k0_pay63 (F := F)) (Rect.unit (s := S2x512x256) ![0, 0, 0] S1x512x256.size inb_S2x512x256_S1x512x256_0_0_0)
    a1 := View.ld (Val := Elt F) (e' := .f32) (k0_pay63 (F := F)) (Rect.unit (s := S2x512x256) ![1, 0, 0] S1x512x256.size inb_S2x512x256_S1x512x256_1_0_0)
    s0 := k0_pay65 (qa x1) v74 (constant S512x512 .f32 0x00000000#32)
    s1 := k0_pay66 (qb x1) v74 }

/-- The carried state before trip `k` of the loop. -/
def loopSt (i : grid0.Coords) (v0 : BitVec 32) (v2 : Elt F .f32) (v11 v17 : FVec F S512x128 .bf16) (v21 : IVec S1x512 32)
    (x2 : Vec F S1x4096x128 .bf16) (x3 : Vec F S1x4096x256 .bf16) (s : St F) : Nat → St F
  | 0 => s
  | k + 1 => if h : k < (k0_t1_loop i).trips then trip i v0 v2 v11 v17 v21 x2 x3 ⟨k, h⟩ (loopSt i v0 v2 v11 v17 v21 x2 x3 s k)
      else loopSt i v0 v2 v11 v17 v21 x2 x3 s k

/-- The last pair of chunks, the one that meets the diagonal, on the carried state. -/
def last (i : grid0.Coords) (v0 : BitVec 32) (v2 : Elt F .f32) (v11 v17 : FVec F S512x128 .bf16) (v20 : IVec S512x1 32) (v21 : IVec S1x512 32) (v90 : BitVec 32)
    (x2 : Vec F S1x4096x128 .bf16) (x3 : Vec F S1x4096x256 .bf16) (s : St F) : St F :=
  let kc := View.ld (Val := Elt F) (e' := .bf16) x2 (Rect.unit (s := S1x4096x128) (k0_off9 i 1#32) S1x512x128.size (k0_off9_inb i 0))
  let t0 := k0_pay80 v11 kc
  let t1 := k0_pay82 (k0_pay81 v17 kc)
  let vc := View.ld (Val := Elt F) (e' := .bf16) x3 (Rect.unit (s := S1x4096x256) (k0_off10 i) S1x512x256.size (k0_off10_inb i))
  let w := k0_pay83 vc
  let b := k0_pay84 v21 v90
  let b' := k0_pay85 v0 v2 v21 v90
  let a0 := k0_pay91 w (k0_pay89 v0 v2 v20 v21 v90 s.s0 s.m0) (k0_pay90 v0 v2 v20 v21 v90 s.s0 s.m0 s.a0)
  let m0 := k0_pay92 (k0_pay88 v0 v2 v20 v21 v90 s.s0 s.m0)
  let a1 := k0_pay97 (k0_pay96 v20 w b b' s.s1 s.m1 s.a1)
  let m1 := k0_pay98 (k0_pay95 v20 b b' s.s1 s.m1)
  let vd := View.ld (Val := Elt F) (e' := .bf16) x3 (Rect.unit (s := S1x4096x256) (k0_off11 i) S1x512x256.size (k0_off11_inb i))
  let w2 := k0_pay102 vd
  let p := k0_pay103 v21 v90
  let p' := k0_pay104 v0 v21 v90
  { m0 := k0_pay110 v2 v20 p p' t0 m0
    a0 := k0_pay109 v2 v20 w2 p p' t0 m0 a0
    m1 := k0_pay116 v20 p (k0_pay105 v2 p') (k0_pay111 t1) m1
    a1 := k0_pay115 v20 w2 p (k0_pay105 v2 p') (k0_pay111 t1) m1 a1
    s0 := s.s0
    s1 := s.s1 }

/-- The block written, from the state after the last pair. -/
def finish (x4 : Vec F S4x64 .f32) (x5 : Vec F S1x128 .f32) (s : St F) : Vec F S1x512x128 .bf16 :=
  let y4 := View.ld (Val := Elt F) (e' := .f32) x4 (Rect.unit (s := S4x64) ![0, 0] S4x64.size inb_S4x64_S4x64_0_0)
  let A : Vec F S2x512x256 .f32 := two256 s.a0 s.a1
  k0_pay1 (k0_pay121 (k0_pay118 y4) (k0_pay119 y4) (k0_pay120 y4)
    (View.ld (Val := Elt F) (e' := .f32) A (Rect.unit (s := S2x512x256) ![0, 0, 0] S1x512x128.size inb_S2x512x256_S1x512x128_0_0_0))
    (View.ld (Val := Elt F) (e' := .f32) A (Rect.unit (s := S2x512x256) ![0, 0, 128] S1x512x128.size inb_S2x512x256_S1x512x128_0_0_128))
    (View.ld (Val := Elt F) (e' := .f32) A (Rect.unit (s := S2x512x256) ![1, 0, 0] S1x512x128.size inb_S2x512x256_S1x512x128_1_0_0))
    (View.ld (Val := Elt F) (e' := .f32) A (Rect.unit (s := S2x512x256) ![1, 0, 128] S1x512x128.size inb_S2x512x256_S1x512x128_1_0_128))
    (View.ld (Val := Elt F) (e' := .f32) x5 (Rect.unit (s := S1x128) ![0, 0] S1x128.size inb_S1x128_S1x128_0_0)))

/-- The block the kernel writes at a grid point, from the blocks it reads there. -/
def blockOut (i : grid0.Coords) (x0 : Vec F S4 .f32) (x1 : Vec F S1x512x128 .bf16) (x2 : Vec F S1x4096x128 .bf16)
    (x3 : Vec F S1x4096x256 .bf16) (x4 : Vec F S4x64 .f32) (x5 : Vec F S1x128 .f32) : Vec F S1x512x128 .bf16 :=
  finish x4 x5 (last i (q0W i) (slopeW i x0) (qa x1) (qb x1) (k0_pay61 i) colW (lastW i) x2 x3
    (loopSt i (q0W i) (slopeW i x0) (qa x1) (qb x1) colW x2 x3 (initSt i x1 x2) (k0_t1_loop i).trips))

end Cert.KernelIdeal.Att
-- ==== Proof.Trip.lean ====
module
public import proofs.«01_k».proof.Proof.State
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One trip of the loop takes the carried state, wherever it lies in the scratch buffers, to `trip` of it. -/
theorem trip_run (𝒱 : Variants) (c : Dev nD) (bd : Option 𝒱.V) (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) (x2 : Vec F S1x4096x128 .bf16) (x3 : Vec F S1x4096x256 .bf16) (k : Fin (k0_t1_loop i).trips) (E : Set ℕ) (s : St F) (f10 : BufTy.Contents (Elt F) arg10.view.ty) (f11 : BufTy.Contents (Elt F) arg11.view.ty) (f12 : BufTy.Contents (Elt F) arg12.view.ty) (f13 : BufTy.Contents (Elt F) arg13.view.ty)
  (h10 : arg10.view.read (Elt F) f10 = two1 s.m0 s.m1) (h11 : arg11.view.read (Elt F) f11 = two256 s.a0 s.a1) (h12 : arg12.view.read (Elt F) f12 = two512 s.s0 s.s1) :
  Trip_k0_t1 (F := F) c arg5 arg6 arg10 arg11 arg12 arg13 (harg5.unread x2) (harg6.unread x3) f10 f11 f12 f13
  ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 v0 v2 v11 v17 v21 v49 v67 v74 cst_32 k PUnit.unit)
   (fun _ => iprop(∃ g10 g11 g12 g13, ⌜arg10.view.read (Elt F) g10 = two1 (trip i v0 v2 v11 v17 v21 x2 x3 k s).m0 (trip i v0 v2 v11 v17 v21 x2 x3 k s).m1
      ∧ arg11.view.read (Elt F) g11 = two256 (trip i v0 v2 v11 v17 v21 x2 x3 k s).a0 (trip i v0 v2 v11 v17 v21 x2 x3 k s).a1
      ∧ arg12.view.read (Elt F) g12 = two512 (trip i v0 v2 v11 v17 v21 x2 x3 k s).s0 (trip i v0 v2 v11 v17 v21 x2 x3 k s).s1⌝ ∗
    Trip_k0_t1 (F := F) c arg5 arg6 arg10 arg11 arg12 arg13 (harg5.unread x2) (harg6.unread x3) g10 g11 g12 g13)) := by
  unfold k0_t1_body
  simp only [k0_part1_eq_skeleton, k0_part2_eq_skeleton, k0_part3_eq_skeleton, k0_part4_eq_skeleton]
  iintro ⟨H5, H6, H10, H11, H12, H13⟩
  sl_exec
  sl_step
  iexists _, _, _, _
  isplitr
  rotate_left
  · isplitl [H5]; · iexact H5
    isplitl [H6]; · iexact H6
    isplitl [H10]; · iexact H10
    isplitl [H11]; · iexact H11
    isplitl [H12]; · iexact H12
    iexact H13
  · ipureintro
    have e5 : ∀ r : Rect S1x4096x128, arg5.view.readAt (Elt F) r.toLoadRect (harg5.unread x2) = View.ld x2 r := fun r => by rw [View.readAt_eq_ld, harg5.read_unread]
    have e6 : ∀ r : Rect S1x4096x256, arg6.view.readAt (Elt F) r.toLoadRect (harg6.unread x3) = View.ld x3 r := fun r => by rw [View.readAt_eq_ld, harg6.read_unread]
    sl_unfold_run_names
    simp (config := { proj := false, dsimp := false }) only [at1_0 _ _ h10, at1_1 _ _ h10, at256_0 _ _ h11, at256_1 _ _ h11, at512_0 _ _ h12, at512_1 _ _ h12,
      lst1_0, lst1_1, lst256_0, lst256_1, lst512_0, lst512_1, e5, e6, cov1_0, cov1_1, cov256_0, cov256_1, cov512_0, cov512_1,
      lst1_0', lst1_1', lst256_0', lst256_1', lst512_0', lst512_1', cov1_0', cov1_1', cov256_0', cov256_1', cov512_0', cov512_1',
      lst1_0'', lst1_1'', lst256_0'', lst256_1'', lst512_0'', lst512_1'', cov1_0'', cov1_1'', cov256_0'', cov256_1'', cov512_0'', cov512_1'']
    refine ⟨?_, ?_, ?_⟩
    · rw [read_two cover1]
      dsimp only [trip]
    · rw [read_two cover256]
      dsimp only [trip]
    · rw [read_two cover512]
      dsimp only [trip]
end Cert.KernelIdeal.Att
-- ==== Proof.Run.lean ====
module
public import proofs.«01_k».proof.Proof.Trip
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop over the pairs of chunks that lie wholly below the diagonal. -/
@[irreducible] def loop1 (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) : Prog (TpuEff nD τ sig (Elt F) Λ₀ .tc) PUnit :=
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 v0 v2 v11 v17 v21 v49 v67 v74 cst_32)

/-- The rest of that loop, which makes no trip. -/
@[irreducible] def loop2 (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) (v88 : BitVec 32) : Prog (TpuEff nD τ sig (Elt F) Λ₀ .tc) PUnit :=
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 v0 v2 v11 v17 v21 v49 v67 v74 cst_32 v88)

/-- The part of the body that holds the two loops, with the loops named. -/
noncomputable def part11 (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) :
    Prog (TpuEff nD τ sig (Elt F) Λ₀ .tc) (Σ' (v90 : BitVec 32), FVec F S512x512 .f32) := do
  let v76 : Vec F S1x512x512 .f32 ← Prog.lift (.load arg12 (Rect.unit (s := S2x512x512) ![0, 0, 0] S1x512x512.size inb_S2x512x512_S1x512x512_0_0_0).toLoadRect (View.loadsAt_vmem h_S1x512x512))
  Prog.lift (.store arg12 (Rect.unit (s := S2x512x512) ![0, 0, 0] S1x512x512.size inb_S2x512x512_S1x512x512_0_0_0) (k0_pay65 v11 v74 cst_32) Finset.univ (View.stores_vmem_bits_univ h_S1x512x512 rfl) (.inl rfl))
  let v80 : Vec F S1x512x512 .f32 ← Prog.lift (.load arg12 (Rect.unit (s := S2x512x512) ![1, 0, 0] S1x512x512.size inb_S2x512x512_S1x512x512_1_0_0).toLoadRect (View.loadsAt_vmem h_S1x512x512))
  Prog.lift (.store arg12 (Rect.unit (s := S2x512x512) ![1, 0, 0] S1x512x512.size inb_S2x512x512_S1x512x512_1_0_0) (k0_pay66 v17 v74) Finset.univ (View.stores_vmem_bits_univ h_S1x512x512 rfl) (.inl rfl))
  let v83 : BitVec 32 := Scalar.subi v67 1#32
  let v84 : BitVec 32 := Scalar.subi v83 0#32
  let v86 : BitVec 32 := Scalar.divsi v84 1#32
  let v87 : BitVec 32 := Scalar.muli v86 1#32
  let v88 : BitVec 32 := Scalar.addi 0#32 v87
  loop1 i arg3 harg3 arg4 harg4 arg5 harg5 arg6 harg6 arg7 harg7 arg8 harg8 arg9 harg9 arg10 harg10 arg11 harg11 arg12 harg12 arg13 harg13 v0 v2 v11 v17 v21 v49 v67 v74 cst_32
  loop2 i arg3 harg3 arg4 harg4 arg5 harg5 arg6 harg6 arg7 harg7 arg8 harg8 arg9 harg9 arg10 harg10 arg11 harg11 arg12 harg12 arg13 harg13 v0 v2 v11 v17 v21 v49 v67 v74 cst_32 v88
  let v89 : BitVec 32 := Scalar.subi v67 1#32
  let v90 : BitVec 32 := Scalar.muli 2#32 v89
  let v97 : Vec F S1x512x128 .bf16 ← Prog.lift (.load arg5 (Rect.unit (s := S1x4096x128) (k0_off9 i 1#32) S1x512x128.size (k0_off9_inb i 0)).toLoadRect (View.loadsAt_vmem h_S1x512x128))
  let v100 : Vec F S1x512x512 .f32 ← Prog.lift (.load arg13 (Rect.unit (s := S2x512x512) ![0, 0, 0] S1x512x512.size inb_S2x512x512_S1x512x512_0_0_0).toLoadRect (View.loadsAt_vmem h_S1x512x512))
  Prog.lift (.store arg13 (Rect.unit (s := S2x512x512) ![0, 0, 0] S1x512x512.size inb_S2x512x512_S1x512x512_0_0_0) (k0_pay80 v11 v97) Finset.univ (View.stores_vmem_bits_univ h_S1x512x512 rfl) (.inl rfl))
  pure ⟨v90, k0_pay81 v17 v97⟩

unseal loop1 loop2 in
set_option maxRecDepth 65536 in
theorem part11_eq : k0_part11 (F := F) = part11 (F := F) := k0_part11_eq_skeleton.trans rfl

/-- The buffers of the loop, the scratch ones holding a carried state. -/
def Holds (c : Dev nD) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (x2 : Vec F S1x4096x128 .bf16) (x3 : Vec F S1x4096x256 .bf16) (s : St F) : sProp 𝕄 :=
  iprop(∃ g10 g11 g12 g13, ⌜arg10.view.read (Elt F) g10 = two1 s.m0 s.m1 ∧ arg11.view.read (Elt F) g11 = two256 s.a0 s.a1 ∧ arg12.view.read (Elt F) g12 = two512 s.s0 s.s1⌝ ∗ Trip_k0_t1 (F := F) c arg5 arg6 arg10 arg11 arg12 arg13 (harg5.unread x2) (harg6.unread x3) g10 g11 g12 g13)

/-- The loop takes the carried state to the state after all its trips. -/
theorem loop1_run (c : Dev nD) (E : Set ℕ) (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) (x2 : Vec F S1x4096x128 .bf16) (x3 : Vec F S1x4096x256 .bf16) (s : St F) :
    Holds c arg3 harg3 arg4 harg4 arg5 harg5 arg6 harg6 arg7 harg7 arg8 harg8 arg9 harg9 arg10 harg10 arg11 harg11 arg12 harg12 arg13 harg13 x2 x3 s ⊢ wp frame (wpE (defs₀ (F := F)) Variants.none (c : Thread nD τ) none) E (loop1 i arg3 harg3 arg4 harg4 arg5 harg5 arg6 harg6 arg7 harg7 arg8 harg8 arg9 harg9 arg10 harg10 arg11 harg11 arg12 harg12 arg13 harg13 v0 v2 v11 v17 v21 v49 v67 v74 cst_32)
      (fun _ => Holds c arg3 harg3 arg4 harg4 arg5 harg5 arg6 harg6 arg7 harg7 arg8 harg8 arg9 harg9 arg10 harg10 arg11 harg11 arg12 harg12 arg13 harg13 x2 x3 (loopSt i v0 v2 v11 v17 v21 x2 x3 s (k0_t1_loop i).trips)) := by
  unfold loop1
  iintro H
  iapply (Scf.wp_for _ _ E _ _ _ (k0_t1_ok i) _ _ (fun k _ => Holds c arg3 harg3 arg4 harg4 arg5 harg5 arg6 harg6 arg7 harg7 arg8 harg8 arg9 harg9 arg10 harg10 arg11 harg11 arg12 harg12 arg13 harg13 x2 x3 (loopSt i v0 v2 v11 v17 v21 x2 x3 s k)) ?_)
  · intro k acc
    unfold Holds
    iintro ⟨%g10, %g11, %g12, %g13, %h, HT⟩
    have e : loopSt i v0 v2 v11 v17 v21 x2 x3 s (k.val + 1) = trip i v0 v2 v11 v17 v21 x2 x3 k (loopSt i v0 v2 v11 v17 v21 x2 x3 s k.val) := dif_pos k.isLt
    rw [e]
    iapply (trip_run Variants.none c none i arg3 harg3 arg4 harg4 arg5 harg5 arg6 harg6 arg7 harg7 arg8 harg8 arg9 harg9 arg10 harg10 arg11 harg11 arg12 harg12 arg13 harg13 v0 v2 v11 v17 v21 v49 v67 v74 cst_32 x2 x3 k E (loopSt i v0 v2 v11 v17 v21 x2 x3 s k.val) g10 g11 g12 g13 h.1 h.2.1 h.2.2)
    iexact HT
  · isplitl [H]
    · iexact H
    · iintro %_ H
      iexact H

/-- The rest of the loop does nothing. -/
theorem loop2_run (c : Dev nD) (E : Set ℕ) (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (v0 : BitVec 32) (v2 : Elt F .f32) (v11 : FVec F S512x128 .bf16) (v17 : FVec F S512x128 .bf16) (v21 : IVec S1x512 32) (v49 : BitVec 32) (v67 : BitVec 32) (v74 : FVec F S512x128 .bf16) (cst_32 : FVec F S512x512 .f32) (v88 : BitVec 32) (Q : sProp 𝕄) :
    Q ⊢ wp frame (wpE (defs₀ (F := F)) Variants.none (c : Thread nD τ) none) E (loop2 (F := F) i arg3 harg3 arg4 harg4 arg5 harg5 arg6 harg6 arg7 harg7 arg8 harg8 arg9 harg9 arg10 harg10 arg11 harg11 arg12 harg12 arg13 harg13 v0 v2 v11 v17 v21 v49 v67 v74 cst_32 v88) (fun _ => Q) := by
  unfold loop2
  iintro H
  iapply (Scf.wp_for _ _ E _ _ _ (k0_t2_ok i) _ _ (fun _ _ => Q) ?_)
  · intro k acc
    exact absurd k.isLt (Nat.not_lt.2 (Nat.le_trans (k0_t2_abs i).2.1 (Nat.zero_le _)))
  · isplitl [H]
    · iexact H
    · iintro %_ H
      iexact H

/-- A step at the head of a block of steps, by its own triple. -/
theorem wp_head {β γ : Type} (c : Dev nD) (E : Set ℕ) (p : Prog (TpuEff nD τ sig (Elt F) Λ₀ .tc) PUnit) (k : PUnit → Prog (TpuEff nD τ sig (Elt F) Λ₀ .tc) β)
    (k2 : β → Prog (TpuEff nD τ sig (Elt F) Λ₀ .tc) γ) (P P' : sProp 𝕄) (Q : γ → sProp 𝕄)
    (h : P ⊢ wp frame (wpE (defs₀ (F := F)) Variants.none (c : Thread nD τ) none) E p (fun _ => P')) :
    iprop(P ∗ (P' -∗ wp frame (wpE (defs₀ (F := F)) Variants.none (c : Thread nD τ) none) E (k ⟨⟩ >>= k2) Q))
    ⊢ wp frame (wpE (defs₀ (F := F)) Variants.none (c : Thread nD τ) none) E ((p >>= k) >>= k2) Q := by
  rw [wp_bind frame (wpE (defs₀ (F := F)) Variants.none (c : Thread nD τ) none) E (p >>= k) k2 Q, wp_bind frame (wpE (defs₀ (F := F)) Variants.none (c : Thread nD τ) none) E p k]
  iintro ⟨HP, HK⟩
  iapply (wp_wand_r frame (wpE (defs₀ (F := F)) Variants.none (c : Thread nD τ) none) E)
  isplitl [HP]
  · iapply h
    iexact HP
  · iintro %_ HP
    rw [← wp_bind frame (wpE (defs₀ (F := F)) Variants.none (c : Thread nD τ) none) E (k ⟨⟩) k2 Q]
    iapply HK
    iexact HP

set_option maxHeartbeats 2000000 in
theorem body_run (c : Dev nD) (E : Set ℕ) (i : grid0.Coords) (arg3 : Memref sig .tc .smem S4 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x256 .f32) (harg11 : arg11.IsWhole) (arg12 : Memref sig .tc .vmem S2x512x512 .f32) (harg12 : arg12.IsWhole) (arg13 : Memref sig .tc .vmem S2x512x512 .f32) (harg13 : arg13.IsWhole) (x0 : Vec F S4 .f32) (x1 : Vec F S1x512x128 .bf16) (x2 : Vec F S1x4096x128 .bf16) (x3 : Vec F S1x4096x256 .bf16) (x4 : Vec F S4x64 .f32) (x5 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (blockOut i x0 x1 x2 x3 x4 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none (c : Thread nD τ) none) E (cc0_diff_prompt i arg3 harg3 arg4 harg4 arg5 harg5 arg6 harg6 arg7 harg7 arg8 harg8 arg9 harg9 arg10 harg10 arg11 harg11 arg12 harg12 arg13 harg13) K := by
  simp only [cc0_diff_prompt_eq_skeleton]; unfold cc0_diff_prompt_skel
  simp only [k0_part9_eq_skeleton, k0_part10_eq_skeleton, part11_eq, k0_part12_eq_skeleton, k0_part13_eq_skeleton, k0_part14_eq_skeleton, k0_part15_eq_skeleton, k0_part16_eq_skeleton, k0_part17_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  unfold part11
  have e1 : ∀ r : Rect S1x512x128, arg4.view.readAt (Elt F) r.toLoadRect (harg4.unread x1) = View.ld x1 r := fun r => by rw [View.readAt_eq_ld, harg4.read_unread]
  have e3 : ∀ r : Rect S4, arg3.view.readAt (Elt F) r.toLoadRect (harg3.unread x0) = View.ld x0 r := fun r => by rw [View.readAt_eq_ld, harg3.read_unread]
  have e5 : ∀ r : Rect S1x4096x128, arg5.view.readAt (Elt F) r.toLoadRect (harg5.unread x2) = View.ld x2 r := fun r => by rw [View.readAt_eq_ld, harg5.read_unread]
  have e6 : ∀ r : Rect S1x4096x256, arg6.view.readAt (Elt F) r.toLoadRect (harg6.unread x3) = View.ld x3 r := fun r => by rw [View.readAt_eq_ld, harg6.read_unread]
  have e7 : ∀ r : Rect S4x64, arg7.view.readAt (Elt F) r.toLoadRect (harg7.unread x4) = View.ld x4 r := fun r => by rw [View.readAt_eq_ld, harg7.read_unread]
  have e8 : ∀ r : Rect S1x128, arg8.view.readAt (Elt F) r.toLoadRect (harg8.unread x5) = View.ld x5 r := fun r => by rw [View.readAt_eq_ld, harg8.read_unread]
  generalize hL1 : @loop1 F _ _ = L1
  generalize hL2 : @loop2 F _ _ = L2
  sl_exec
  subst hL1 hL2
  iapply (wp_head c E _ _ _ _ _ _ (loop1_run c E i arg3 harg3 arg4 harg4 arg5 harg5 arg6 harg6 arg7 harg7 arg8 harg8 arg9 harg9 arg10 harg10 arg11 harg11 arg12 harg12 arg13 harg13 (q0W i) (slopeW i x0) (qa x1) (qb x1) colW _ _ _ _ x2 x3 (initSt i x1 x2)))
  isplitl [H5 H6 H10 H11 H12 H13]
  · unfold Holds
    iexists _, _, _, _
    isplitr
    rotate_left
    · isplitl [H5]; · iexact H5
      isplitl [H6]; · iexact H6
      isplitl [H10]; · iexact H10
      isplitl [H11]; · iexact H11
      isplitl [H12]; · iexact H12
      iexact H13
    · ipureintro
      sl_unfold_run_names
      refine ⟨?_, ?_, ?_⟩
      · refine (View.read_writes_full arg10.view f10 inb_S2x512x1_S2x512x1_0_0_0 _ []).trans (eta1 _)
      · refine (View.read_writes_full arg11.view f11 inb_S2x512x256_S2x512x256_0_0_0 _ []).trans (eta256 _)
      · refine (read_two cover512 _ _ _ _ _).trans rfl
  · iintro HT
    iapply (wp_head c E _ _ _ _ _ _ (loop2_run c E i arg3 harg3 arg4 harg4 arg5 harg5 arg6 harg6 arg7 harg7 arg8 harg8 arg9 harg9 arg10 harg10 arg11 harg11 arg12 harg12 arg13 harg13 _ _ _ _ _ _ _ _ _ _ _))
    isplitl [HT]
    · iexact HT
    unfold Holds
    iintro ⟨%g10, %g11, %g12, %g13, %h, H5, H6, H10, H11, H12, H13⟩
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      · ipureintro
        refine (View.read_writes_full arg9.view f9 inb_S1x512x128_S1x512x128_0_0_0 _ []).trans ?_
        obtain ⟨h10, h11, h12⟩ := h
        sl_unfold_run_names
        simp (config := { proj := false, dsimp := false }) only [at1_0 _ _ h10, at1_1 _ _ h10, at256_0 _ _ h11, at256_1 _ _ h11, at512_0 _ _ h12, at512_1 _ _ h12,
          lst1_0, lst1_1, lst256_0, lst256_1, lst512_0, lst512_1, e1, e3, e5, e6, e7, e8, cov1_0, cov1_1, cov256_0, cov256_1, cov512_0, cov512_1,
          lst1_0', lst1_1', lst256_0', lst256_1', lst512_0', lst512_1', cov1_0', cov1_1', cov256_0', cov256_1', cov512_0', cov512_1',
          lst1_0'', lst1_1'', lst256_0'', lst256_1'', lst512_0'', lst512_1'', cov1_0'', cov1_1'', cov256_0'', cov256_1'', cov512_0'', cov512_1'']
        simp (config := { proj := false, dsimp := false }) only [slc256]
        dsimp only [blockOut, finish, last]
        generalize loopSt i (q0W i) (slopeW i x0) (qa x1) (qb x1) colW x2 x3 (initSt i x1 x2) (k0_t1_loop i).trips = z
        dsimp only [q0W, slopeW, qa, qb, colW, lastW, pairsW]
        with_reducible congr 7
        all_goals (with_reducible congr 20)
        all_goals rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    · iexists _, _; isplitr; swap; · iexact H13
      ipureintro; rfl
end Cert.KernelIdeal.Att
-- ==== Proof.Launch.lean ====
module
public import proofs.«01_k».proof.Proof.Run
public import Idealize.ShloMosaic.Lib.Claim
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of results that grid point `t` writes: a closed term of the six blocks it reads. -/
def outAt (c : Dev nD) (t : Fin cfg0.N) : Vec F S1x512x128 .bf16 :=
  blockOut (grid0.coords t) (iblk m c 0 t) (iblk m c 1 t) (iblk m c 2 t) (iblk m c 3 t) (iblk m c 4 t) (iblk m c 5 t)

/-- Before the launch the arrays are as the host part left them; a point leaves its input blocks in place and `outAt` in the block of results. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem dat_A (c : Dev nD) (w : Fin cfg0.W) : (dat m 0 c).A w = V m c (Pipeline.arrRef spec0 w) := by
  dsimp only [dat]

theorem aft0 (c : Dev nD) (t : Fin cfg0.N) : (dat m 0 c).after 0 t = iblk m c 0 t := by dsimp only [dat]
theorem aft1 (c : Dev nD) (t : Fin cfg0.N) : (dat m 0 c).after 1 t = iblk m c 1 t := by dsimp only [dat]
theorem aft2 (c : Dev nD) (t : Fin cfg0.N) : (dat m 0 c).after 2 t = iblk m c 2 t := by dsimp only [dat]
theorem aft3 (c : Dev nD) (t : Fin cfg0.N) : (dat m 0 c).after 3 t = iblk m c 3 t := by dsimp only [dat]
theorem aft4 (c : Dev nD) (t : Fin cfg0.N) : (dat m 0 c).after 4 t = iblk m c 4 t := by dsimp only [dat]
theorem aft5 (c : Dev nD) (t : Fin cfg0.N) : (dat m 0 c).after 5 t = iblk m c 5 t := by dsimp only [dat]
theorem aft6 (c : Dev nD) (t : Fin cfg0.N) : (dat m 0 c).after 6 t = outAt m c t := by dsimp only [dat]

theorem bef0 (c : Dev nD) (t : Fin cfg0.N) (d) : (dat m 0 c).before 0 t d = iblk m c 0 t :=
  before0_0_of m (dat m 0 c) (dat_A m c 0) (aft0 m c) t d
theorem bef1 (c : Dev nD) (t : Fin cfg0.N) (d) : (dat m 0 c).before 1 t d = iblk m c 1 t :=
  before0_1_of m (dat m 0 c) (dat_A m c 1) (aft1 m c) t d
theorem bef2 (c : Dev nD) (t : Fin cfg0.N) (d) : (dat m 0 c).before 2 t d = iblk m c 2 t :=
  before0_2_of m (dat m 0 c) (dat_A m c 2) (aft2 m c) t d
theorem bef3 (c : Dev nD) (t : Fin cfg0.N) (d) : (dat m 0 c).before 3 t d = iblk m c 3 t :=
  before0_3_of m (dat m 0 c) (dat_A m c 3) (aft3 m c) t d
theorem bef4 (c : Dev nD) (t : Fin cfg0.N) (d) : (dat m 0 c).before 4 t d = iblk m c 4 t :=
  before0_4_of m (dat m 0 c) (dat_A m c 4) (aft4 m c) t d
theorem bef5 (c : Dev nD) (t : Fin cfg0.N) (d) : (dat m 0 c).before 5 t d = iblk m c 5 t :=
  before0_5_of m (dat m 0 c) (dat_A m c 5) (aft5 m c) t d

/-- What a grid point starts from. -/
def Pre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d)))

/-- What it ends with. -/
def Post (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t))

set_option maxHeartbeats 800000 in
/-- One grid point, from `body_run`. -/
theorem point_run (c : Dev nD) (t : Fin cfg0.N) :
    Pre m c t ⊢ wp frame (wpE (defs₀ (F := F)) Variants.none c none) Set.univ (bodyAt0 t) (fun _ => Post m c t) := by
  unfold Pre Post bodyAt0
  simp only [bef0, bef1, bef2, bef3, bef4, bef5]
  rw [show (dat m 0 c).Φ t.succ = (dat m 0 c).Φ t.castSucc from rfl,
    show (dat m 0 c).owesAt () t.succ = (dat m 0 c).owesAt () t.castSucc from rfl,
    aft0, aft1, aft2, aft3, aft4, aft5, aft6]
  rw [show (dat m 0 c).Φ t.castSucc = Pipeline.ΦA spec0 c from rfl, PhiA0_eq]
  unfold outAt
  iintro ⟨⟨⟨S0, S1, S2, S3⟩, Hg⟩, Ho, ⟨%_, H0⟩, ⟨%_, H1⟩, ⟨%_, H2⟩, ⟨%_, H3⟩, ⟨%_, H4⟩, ⟨%_, H5⟩, ⟨%_, H6⟩⟩
  iapply (body_run c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem table_row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, table_row]
  exact triple_restated (point_run m c t) rfl .rfl fun _ => .rfl

set_option backward.isDefEq.respectTransparency.types false in
/-- Every run ends, with the arrays the launch wrote at what the blocks say and with all counters at zero. -/
theorem launch_run : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hΦ := fun _ _ => rfl)

/-- The arguments end unchanged and the counters at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dat m) (dat_A m) ((θ_run defs _ _).mono (fun _ h => h.1) (launch_run m ρ)))
    ((θ_run defs _ _).mono (fun _ h => h.2) (launch_run m ρ))

end Cert.KernelIdeal.Att

end
-- ==== Proof.Steps.lean ====
module
public import proofs.«01_k».proof.Proof.State
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The scores of a chunk: the queries' products with the chunk's keys. -/
def dotK (q : FVec F S512x128 .bf16) (k : Vec F S1x512x128 .bf16) : Vec F S1x512x512 .f32 :=
  shapeCast S1x512x512 (matmul dot_S512x128_S512x128_S512x512_1_1_0_0_n_n none q
    (shapeCast S512x128 k shapeCasts_S1x512x128_S512x128) (constant S512x512 .f32 0x00000000#32)) shapeCasts_S512x512_S1x512x512

/-- The positions of chunk `w`'s keys. -/
def posW (w : BitVec 32) : IVec S1x512 32 := addi (broadcast S1x512 (Scalar.muli w 512#32)) colW

/-- What is added to the scores of chunk `w`: the slope times the key's position, from the block's first query on. -/
def biasW (v0 : BitVec 32) (v2 : Elt F .f32) (w : BitVec 32) : FVec F S1x512 .f32 :=
  mulf (broadcast S1x512 v2) (sitofp .f32 (subi (posW w) (broadcast S1x512 v0)))

/-- The biased scores of a chunk that no query of the block is masked from. -/
def openSc (v0 : BitVec 32) (v2 : Elt F .f32) (w : BitVec 32) (s : Vec F S1x512x512 .f32) : FVec F S512x512 .f32 :=
  addf (shapeCast S512x512 s shapeCasts_S1x512x512_S512x512) (broadcastTo S512x512 (biasW v0 v2 w) broadcasts_S1x512_S512x512)

/-- The biased scores of a chunk, the mask where the key comes after the query. -/
def shutSc (v0 : BitVec 32) (v2 : Elt F .f32) (v20 : IVec S512x1 32) (w : BitVec 32) (s : Vec F S1x512x512 .f32) : FVec F S512x512 .f32 :=
  select (cmpi .sle (broadcastTo S512x512 (posW w) broadcasts_S1x512_S512x512) (broadcastTo S512x512 v20 broadcasts_S512x1_S512x512))
    (openSc v0 v2 w s) (broadcast S512x512 (Named.named κ "mask" 0xF149F2CA#32))

/-- The new maxima, one column. -/
def maxS (sc : FVec F S512x512 .f32) (m : Vec F S1x512x1 .f32) : FVec F S512x1 .f32 :=
  maximumf (shapeCast S512x1 m shapeCasts_S1x512x1_S512x1)
    (shapeCast S512x1 (multiReduction .maximumf [1] S512 sc 0xFF800000#32 reduces_S512x512_S512 (.inl rfl) rfl) shapeCasts_S512_S512x1)

/-- The new maxima, in the block they are kept in. -/
def stepM (sc : FVec F S512x512 .f32) (m : Vec F S1x512x1 .f32) : Vec F S1x512x1 .f32 :=
  shapeCast S1x512x1 (maxS sc m) shapeCasts_S512x1_S1x512x1

/-- The new sums: the old ones brought to the new maxima, and the chunk's own. -/
def stepA (sc : FVec F S512x512 .f32) (m : Vec F S1x512x1 .f32) (v : Vec F S1x512x256 .bf16) (a : Vec F S1x512x256 .f32) : Vec F S1x512x256 .f32 :=
  shapeCast S1x512x256 (addf
    (mulf (broadcastTo S512x256 (exp (subf (shapeCast S512x1 m shapeCasts_S1x512x1_S512x1) (maxS sc m))) broadcasts_S512x1_S512x256)
      (shapeCast S512x256 a shapeCasts_S1x512x256_S512x256))
    (matmul dot_S512x512_S512x256_S512x256_1_0_0_1_n_n none
      (truncf .bf16 (exp (subf sc (broadcastTo S512x512 (maxS sc m) broadcasts_S512x1_S512x512))) bitsLt_bf16_f32)
      (shapeCast S512x256 v shapeCasts_S1x512x256_S512x256) (constant S512x256 .f32 0x00000000#32))) shapeCasts_S512x256_S1x512x256

/-- A block of keys and one of values. -/
def keys (x2 : Vec F S1x4096x128 .bf16) (o : Fin 3 → Nat) (h : ∀ a, o a + S1x512x128.size a ≤ S1x4096x128.size a) : Vec F S1x512x128 .bf16 :=
  View.ld (Val := Elt F) (e' := .bf16) x2 (Rect.unit (s := S1x4096x128) o S1x512x128.size h)
@[inherit_doc keys]
def vals (x3 : Vec F S1x4096x256 .bf16) (o : Fin 3 → Nat) (h : ∀ a, o a + S1x512x256.size a ≤ S1x4096x256.size a) : Vec F S1x512x256 .bf16 :=
  View.ld (Val := Elt F) (e' := .bf16) x3 (Rect.unit (s := S1x4096x256) o S1x512x256.size h)

/-- The first chunk's word in trip `k`, and the second's. -/
def w1 (i : grid0.Coords) (k : Fin (k0_t1_loop i).trips) : BitVec 32 := Scalar.muli 2#32 (Scf.iv 0#32 1#32 k)
@[inherit_doc w1]
def w2 (i : grid0.Coords) (k : Fin (k0_t1_loop i).trips) : BitVec 32 := Scalar.addi (w1 i k) 1#32

section
variable (i : grid0.Coords) (v0 : BitVec 32) (v2 : Elt F .f32) (v11 v17 : FVec F S512x128 .bf16)
    (x2 : Vec F S1x4096x128 .bf16) (x3 : Vec F S1x4096x256 .bf16)

theorem trip_eq (k : Fin (k0_t1_loop i).trips) (s : St F) :
    trip i v0 v2 v11 v17 colW x2 x3 k s =
    { m0 := stepM (openSc v0 v2 (w2 i k) (dotK v11 (keys x2 _ (k0_off3_inb i k 0)))) (stepM (openSc v0 v2 (w1 i k) s.s0) s.m0)
      a0 := stepA (openSc v0 v2 (w2 i k) (dotK v11 (keys x2 _ (k0_off3_inb i k 0)))) (stepM (openSc v0 v2 (w1 i k) s.s0) s.m0)
        (vals x3 _ (k0_off5_inb i k)) (stepA (openSc v0 v2 (w1 i k) s.s0) s.m0 (vals x3 _ (k0_off4_inb i k)) s.a0)
      m1 := stepM (openSc v0 v2 (w2 i k) (dotK v17 (keys x2 _ (k0_off3_inb i k 0)))) (stepM (openSc v0 v2 (w1 i k) s.s1) s.m1)
      a1 := stepA (openSc v0 v2 (w2 i k) (dotK v17 (keys x2 _ (k0_off3_inb i k 0)))) (stepM (openSc v0 v2 (w1 i k) s.s1) s.m1)
        (vals x3 _ (k0_off5_inb i k)) (stepA (openSc v0 v2 (w1 i k) s.s1) s.m1 (vals x3 _ (k0_off4_inb i k)) s.a1)
      s0 := dotK v11 (keys x2 _ (k0_off3_inb i k 1))
      s1 := dotK v17 (keys x2 _ (k0_off3_inb i k 1)) } := rfl

theorem last_eq (v20 : IVec S512x1 32) (v90 : BitVec 32) (s : St F) :
    last i v0 v2 v11 v17 v20 colW v90 x2 x3 s =
    { m0 := stepM (shutSc v0 v2 v20 (Scalar.addi v90 1#32) (dotK v11 (keys x2 _ (k0_off9_inb i 0)))) (stepM (shutSc v0 v2 v20 v90 s.s0) s.m0)
      a0 := stepA (shutSc v0 v2 v20 (Scalar.addi v90 1#32) (dotK v11 (keys x2 _ (k0_off9_inb i 0)))) (stepM (shutSc v0 v2 v20 v90 s.s0) s.m0)
        (vals x3 _ (k0_off11_inb i)) (stepA (shutSc v0 v2 v20 v90 s.s0) s.m0 (vals x3 _ (k0_off10_inb i)) s.a0)
      m1 := stepM (shutSc v0 v2 v20 (Scalar.addi v90 1#32) (dotK v17 (keys x2 _ (k0_off9_inb i 0)))) (stepM (shutSc v0 v2 v20 v90 s.s1) s.m1)
      a1 := stepA (shutSc v0 v2 v20 (Scalar.addi v90 1#32) (dotK v17 (keys x2 _ (k0_off9_inb i 0)))) (stepM (shutSc v0 v2 v20 v90 s.s1) s.m1)
        (vals x3 _ (k0_off11_inb i)) (stepA (shutSc v0 v2 v20 v90 s.s1) s.m1 (vals x3 _ (k0_off10_inb i)) s.a1)
      s0 := s.s0
      s1 := s.s1 } := rfl

theorem initSt_s0 (x1 : Vec F S1x512x128 .bf16) : (initSt i x1 x2).s0 = dotK (qa x1) (keys x2 _ (k0_off2_inb i)) := rfl
theorem initSt_s1 (x1 : Vec F S1x512x128 .bf16) : (initSt i x1 x2).s1 = dotK (qb x1) (keys x2 _ (k0_off2_inb i)) := rfl
end

end Cert.KernelIdeal.Att
-- ==== Proof.Read.lean ====
module
public import proofs.«01_k».proof.Proof.Steps
public import Idealize.ShloMosaic.Lib.Pointwise
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The mask's ideal value is −∞. -/
theorem mask_val : (Named.named κ "mask" 0xF149F2CA#32 : Ideal .f32) = (⊥ : EReal) :=
  IdealRules.named_const.ideal_named_scalar _ _ _ _ rfl

theorem ninf_val : Ideal.ofBits FTy.f32 0xFF800000#32 = (⊥ : EReal) := by
  simp [Ideal.ofBits, Ideal.ieee]

theorem maxS_apply (sc : FVec Ideal S512x512 .f32) (m : Vec Ideal S1x512x1 .f32) (r : Fin 512) :
    maxS sc m (ix2 r 0) = max (m (ix3 0 r 0)) (Finset.univ.fold max ⊥ fun t : Fin 512 => sc (ix2 r t)) := by
  pointwise [maxS]
  rw [ninf_val]

theorem stepM_apply (sc : FVec Ideal S512x512 .f32) (m : Vec Ideal S1x512x1 .f32) (r : Fin 512) :
    stepM sc m (ix3 0 r 0) = max (m (ix3 0 r 0)) (Finset.univ.fold max ⊥ fun t : Fin 512 => sc (ix2 r t)) := by
  rw [← maxS_apply]
  pointwise [stepM]

theorem stepA_apply (sc : FVec Ideal S512x512 .f32) (m : Vec Ideal S1x512x1 .f32) (v : Vec Ideal S1x512x256 .bf16) (a : Vec Ideal S1x512x256 .f32) (r : Fin 512) (e : Fin 256) :
    stepA sc m v a (ix3 0 r e) = Ideal.exp (m (ix3 0 r 0) - stepM sc m (ix3 0 r 0)) * a (ix3 0 r e) +
      ∑ x : Fin 512, Ideal.exp (sc (ix2 r x) - stepM sc m (ix3 0 r 0)) * v (ix3 0 x e) := by
  rw [stepM_apply, ← maxS_apply]
  pointwise [stepA, dot_S512x512_S512x256_S512x256_1_0_0_1_n_n]

theorem dotK_apply (q : FVec Ideal S512x128 .bf16) (k : Vec Ideal S1x512x128 .bf16) (r t : Fin 512) :
    dotK q k (ix3 0 r t) = ∑ x : Fin 128, q (ix2 r x) * k (ix3 0 t x) := by
  pointwise [dotK, dot_S512x128_S512x128_S512x512_1_1_0_0_n_n]

theorem openSc_apply (v0 : BitVec 32) (v2 : Elt Ideal .f32) (w : BitVec 32) (s : Vec Ideal S1x512x512 .f32) (r t : Fin 512) :
    openSc v0 v2 w s (ix2 r t) = s (ix3 0 r t) + v2 * FloatOps.sitofp (F := Ideal) FTy.f32
      (IntOp.subi (IntOp.addi (Scalar.muli w 512#32) (BitVec.ofNat 32 t.val)) v0) := by
  pointwise [openSc, biasW, posW, colW]

theorem shutSc_apply (i : grid0.Coords) (v0 : BitVec 32) (v2 : Elt Ideal .f32) (w : BitVec 32) (s : Vec Ideal S1x512x512 .f32) (r t : Fin 512) :
    shutSc v0 v2 (k0_pay61 i) w s (ix2 r t) = Scalar.select
      (IntOp.cmpi CmpIPredicate.sle (IntOp.addi (Scalar.muli w 512#32) (BitVec.ofNat 32 t.val))
        (IntOp.addi (Scalar.muli (BitVec.ofNat 32 (i 2).val) 512#32) (BitVec.ofNat 32 r.val)))
      (openSc v0 v2 w s (ix2 r t)) (⊥ : EReal) := by
  rw [← mask_val]
  pointwise [shutSc, posW, colW, k0_pay61]

theorem qa_apply (x1 : Vec Ideal S1x512x128 .bf16) (r : Fin 512) (d : Fin 128) :
    qa x1 (ix2 r d) = Scalar.select (IntOp.cmpi CmpIPredicate.slt (BitVec.ofNat 32 d.val) 64#32) (x1 (ix3 0 r d)) (0 : EReal) := by
  pointwise [qa, k0_pay59, k0_pay58]
theorem qb_apply (x1 : Vec Ideal S1x512x128 .bf16) (r : Fin 512) (d : Fin 128) :
    qb x1 (ix2 r d) = Scalar.select (IntOp.cmpi CmpIPredicate.sge (BitVec.ofNat 32 d.val) 64#32) (x1 (ix3 0 r d)) (0 : EReal) := by
  pointwise [qb, k0_pay60, k0_pay58]

section
variable (i : grid0.Coords) (x1 : Vec Ideal S1x512x128 .bf16) (x2 : Vec Ideal S1x4096x128 .bf16)
theorem init_m0 (r : Fin 512) : (initSt i x1 x2).m0 (ix3 0 r 0) = (⊥ : EReal) := by
  rw [← mask_val]
  pointwise [initSt, k0_pay62]
theorem init_m1 (r : Fin 512) : (initSt i x1 x2).m1 (ix3 0 r 0) = (⊥ : EReal) := by
  rw [← mask_val]
  pointwise [initSt, k0_pay62]
theorem init_a0 (r : Fin 512) (e : Fin 256) : (initSt i x1 x2).a0 (ix3 0 r e) = (0 : EReal) := by
  pointwise [initSt, k0_pay63]
theorem init_a1 (r : Fin 512) (e : Fin 256) : (initSt i x1 x2).a1 (ix3 0 r e) = (0 : EReal) := by
  pointwise [initSt, k0_pay63]
end

theorem keys_apply (x2 : Vec Ideal S1x4096x128 .bf16) (o : Fin 3 → Nat) (n : Nat) (ho : o = ![0, n, 0]) (h) (t : Fin 512) (d : Fin 128) (h' : n + t.val < 4096) :
    keys x2 o h (ix3 0 t d) = x2 (ix3 0 ⟨n + t.val, h'⟩ d) := by
  subst ho
  pointwise [keys]
theorem vals_apply (x3 : Vec Ideal S1x4096x256 .bf16) (o : Fin 3 → Nat) (n : Nat) (ho : o = ![0, n, 0]) (h) (t : Fin 512) (d : Fin 256) (h' : n + t.val < 4096) :
    vals x3 o h (ix3 0 t d) = x3 (ix3 0 ⟨n + t.val, h'⟩ d) := by
  subst ho
  pointwise [vals]

theorem slope_apply (i : grid0.Coords) (x0 : Vec Ideal S4 .f32) : slopeW i x0 = x0 (ix1 (i 1)) := by
  have e : k0_off1 i = ![(i 1).val] := k0_off1_eq i
  unfold slopeW
  generalize k0_off1_inb i = h
  revert h
  rw [e]
  intro h
  pointwise

theorem two256_0 (a b : Vec Ideal S1x512x256 .f32) (r : Fin 512) (e : Fin 256) : two256 a b (ix3 0 r e) = a (ix3 0 r e) := by
  have := congrFun (ld256_0 a b) (ix3 0 r e)
  pointwise at this
  exact this
theorem two256_1 (a b : Vec Ideal S1x512x256 .f32) (r : Fin 512) (e : Fin 256) : two256 a b (ix3 1 r e) = b (ix3 0 r e) := by
  have := congrFun (ld256_1 a b) (ix3 0 r e)
  pointwise at this
  exact this

/-- What is done with a query's row of differences of attentions: its norm, the gains, the last factor. -/
def normRow (o : Fin 128 → EReal) (g : EReal) (e : Fin 128) : EReal :=
  o e * Ideal.rsqrt (Ideal.div (∑ x : Fin 128, o x * o x) (Ideal.ofBits FTy.f32 0x43000000#32) + Ideal.ofBits FTy.f32 0x358637BD#32) * g
    * Ideal.ofBits FTy.f32 0x3F4CCCCD#32

/-- The four rows of factors' one number. -/
def lamOf (x : Fin 4 → Fin 64 → EReal) : EReal :=
  Ideal.exp (∑ d : Fin 64, x 0 d * x 1 d) - Ideal.exp (∑ d : Fin 64, x 2 d * x 3 d) + Ideal.ofBits FTy.f32 0x3E4CCCCD#32

theorem finish_apply (x4 : Vec Ideal S4x64 .f32) (x5 : Vec Ideal S1x128 .f32) (s : St Ideal) (r : Fin 512) (e : Fin 128) :
    finish x4 x5 s (ix3 0 r e) = normRow (fun x : Fin 128 =>
      Ideal.div (s.a0 (ix3 0 r ⟨x.val, by omega⟩)) (s.a0 (ix3 0 r ⟨128 + x.val, by omega⟩))
        - lamOf (fun n d => x4 (ix2 n d)) * Ideal.div (s.a1 (ix3 0 r ⟨x.val, by omega⟩)) (s.a1 (ix3 0 r ⟨128 + x.val, by omega⟩)))
      (x5 (ix2 0 e)) e := by
  simp only [← two256_0 s.a0 s.a1, ← two256_1 s.a0 s.a1]
  unfold finish
  dsimp only
  unfold k0_pay1 k0_pay121 k0_pay120 k0_pay119 k0_pay118 k0_pay117
  generalize hA : two256 s.a0 s.a1 = A
  pointwise
  rfl

end Cert.KernelIdeal.Att
-- ==== Proof.Online.lean ====
module
public import Idealize.ShloMosaic.Lib.Pointwise
public import Mathlib.Analysis.SpecialFunctions.Exp
@[expose] public section

noncomputable section

namespace Cert.Online

open Idealize.ShloMosaic

theorem le_fold {n : ℕ} (f : Fin n → EReal) (i : Fin n) : f i ≤ Finset.univ.fold max ⊥ f :=
  (Finset.le_fold_max _).2 (.inr ⟨i, Finset.mem_univ i, le_rfl⟩)

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A score's weight beside a maximum, as a real number. -/
def ew (s m : EReal) : ℝ := (Ideal.exp (s - m)).toReal

theorem bot_weight (m : EReal) : Ideal.exp (⊥ - m) = 0 := by rw [EReal.bot_sub, Ideal.exp_bot]
theorem weight_top (s : EReal) : Ideal.exp (s - ⊤) = 0 := by
  rw [sub_eq_add_neg, EReal.neg_top, EReal.add_bot, Ideal.exp_bot]

theorem ew_bot (m : EReal) : ew ⊥ m = 0 := by rw [ew, bot_weight, EReal.toReal_zero]
theorem ew_top (s : EReal) : ew s ⊤ = 0 := by rw [ew, weight_top, EReal.toReal_zero]
theorem ew_real (x y : ℝ) : ew (x : EReal) (y : EReal) = Real.exp (x - y) := by
  rw [ew, ← EReal.coe_sub, Ideal.exp_coe, EReal.toReal_coe]

/-- Below the maximum the weight is a real number. -/
theorem ew_coe {s m : EReal} (h : s ≤ m) : Ideal.exp (s - m) = (ew s m : EReal) := by
  induction s using EReal.rec with
  | bot => rw [ew_bot, bot_weight, EReal.coe_zero]
  | coe x =>
    induction m using EReal.rec with
    | bot => exact absurd (le_bot_iff.1 h) (EReal.coe_ne_bot x)
    | coe y => rw [ew_real, ← EReal.coe_sub, Ideal.exp_coe]
    | top => rw [ew_top, weight_top, EReal.coe_zero]
  | top =>
    rw [top_le_iff.1 h, ew_top, weight_top, EReal.coe_zero]

theorem ew_nonneg {s m : EReal} (h : s ≤ m) : 0 ≤ ew s m := by
  induction s using EReal.rec with
  | bot => rw [ew_bot]
  | coe x =>
    induction m using EReal.rec with
    | bot => exact absurd (le_bot_iff.1 h) (EReal.coe_ne_bot x)
    | coe y => rw [ew_real]; exact (Real.exp_pos _).le
    | top => rw [ew_top]
  | top => rw [top_le_iff.1 h, ew_top]

/-- Two maxima, one after the other. -/
theorem ew_mul {s m m' : EReal} (h : s ≤ m) (h' : m ≤ m') : ew m m' * ew s m = ew s m' := by
  induction s using EReal.rec with
  | bot => rw [ew_bot, ew_bot, mul_zero]
  | coe x =>
    induction m using EReal.rec with
    | bot => exact absurd (le_bot_iff.1 h) (EReal.coe_ne_bot x)
    | coe y =>
      induction m' using EReal.rec with
      | bot => exact absurd (le_bot_iff.1 h') (EReal.coe_ne_bot y)
      | coe z => rw [ew_real, ew_real, ew_real, ← Real.exp_add]; congr 1; ring
      | top => rw [ew_top, ew_top, zero_mul]
    | top => rw [top_le_iff.1 h', ew_top, ew_top, zero_mul]
  | top =>
    have e := top_le_iff.1 h
    subst e
    rw [top_le_iff.1 h', ew_top, zero_mul]

/-- A real number added to the score and the maximum makes no difference. -/
theorem ew_shift {s m : EReal} (h : s ≤ m) (c : ℝ) : ew (s + (c : EReal)) (m + (c : EReal)) = ew s m := by
  induction s using EReal.rec with
  | bot => rw [EReal.bot_add, ew_bot, ew_bot]
  | coe x =>
    induction m using EReal.rec with
    | bot => exact absurd (le_bot_iff.1 h) (EReal.coe_ne_bot x)
    | coe y => rw [← EReal.coe_add, ← EReal.coe_add, ew_real, ew_real]; congr 1; ring
    | top => rw [EReal.top_add_coe, ew_top, ew_top]
  | top => rw [top_le_iff.1 h, EReal.top_add_coe]

/-- The largest of the first `n` scores. -/
def top (S : ℕ → EReal) (n : ℕ) : EReal := (Finset.range n).sup S

theorem le_top (S : ℕ → EReal) {n t : ℕ} (h : t < n) : S t ≤ top S n := Finset.le_sup (Finset.mem_range.2 h)

theorem top_zero (S : ℕ → EReal) : top S 0 = ⊥ := by simp [top]

theorem top_add (S : ℕ → EReal) (n k : ℕ) : top S (n + k) = max (top S n) (Finset.univ.fold max ⊥ fun t : Fin k => S (n + t.val)) := by
  apply le_antisymm
  · refine Finset.sup_le fun t ht => ?_
    by_cases h : t < n
    · exact (le_top S h).trans (le_max_left _ _)
    · have e : t = n + (t - n) := by omega
      have hk : t - n < k := by have := Finset.mem_range.1 ht; omega
      refine le_trans ?_ (le_max_right _ _)
      have := le_fold (fun t : Fin k => S (n + t.val)) ⟨t - n, hk⟩
      rwa [← e] at this
  · refine max_le (Finset.sup_mono (Finset.range_subset_range.2 (by omega))) ?_
    refine (Finset.fold_max_le _).2 ⟨bot_le, fun t _ => le_top S (by omega)⟩

theorem top_mono (S : ℕ → EReal) {n k : ℕ} (h : n ≤ k) : top S n ≤ top S k := Finset.sup_mono (Finset.range_subset_range.2 h)

/-- Scores of −∞ at the end make no difference. -/
theorem top_end (S : ℕ → EReal) {n k : ℕ} (h : n ≤ k) (hb : ∀ t, n ≤ t → t < k → S t = ⊥) : top S k = top S n := by
  refine le_antisymm (Finset.sup_le fun t ht => ?_) (top_mono S h)
  by_cases ht' : t < n
  · exact le_top S ht'
  · rw [hb t (by omega) (Finset.mem_range.1 ht)]; exact bot_le

/-- The weighted sum of the first `n`. -/
def num (S : ℕ → EReal) (y : ℕ → ℝ) (n : ℕ) : ℝ := ∑ t ∈ Finset.range n, ew (S t) (top S n) * y t

theorem num_end (S : ℕ → EReal) (y : ℕ → ℝ) {n k : ℕ} (h : n ≤ k) (hb : ∀ t, n ≤ t → t < k → S t = ⊥) : num S y k = num S y n := by
  unfold num
  rw [top_end S h hb]
  symm
  refine Finset.sum_subset (Finset.range_subset_range.2 h) fun t h1 h2 => ?_
  rw [hb t (by simpa using h2) (Finset.mem_range.1 h1), ew_bot, zero_mul]

/-- A real number added to every score. -/
theorem top_shift (S R : ℕ → EReal) (c : ℝ) {n : ℕ} (h : ∀ t, t < n → S t = R t + (c : EReal)) : top S n = top R n + (c : EReal) := by
  induction n with
  | zero => rw [top_zero, top_zero, EReal.bot_add]
  | succ n ih =>
    have e : ∀ T : ℕ → EReal, top T (n + 1) = max (T n) (top T n) := fun T => by
      rw [top, Finset.range_add_one, Finset.sup_insert]; rfl
    rw [e, e, ih fun t ht => h t (by omega), h n (by omega)]
    have mono : Monotone fun x : EReal => x + (c : EReal) := fun a b hab => add_le_add hab le_rfl
    exact (mono.map_max).symm

theorem num_shift (S R : ℕ → EReal) (y : ℕ → ℝ) (c : ℝ) {n : ℕ} (h : ∀ t, t < n → S t = R t + (c : EReal)) : num S y n = num R y n := by
  unfold num
  refine Finset.sum_congr rfl fun t ht => ?_
  rw [top_shift S R c h, h t (Finset.mem_range.1 ht), ew_shift (le_top R (Finset.mem_range.1 ht))]

theorem num_congr (S : ℕ → EReal) (y z : ℕ → ℝ) {n : ℕ} (h : ∀ t, t < n → y t = z t) : num S y n = num S z n :=
  Finset.sum_congr rfl fun t ht => by rw [h t (Finset.mem_range.1 ht)]

/-- A maximum and a sum of the first `n` keys. -/
def Acc (S : ℕ → EReal) (y : ℕ → ℝ) (n : ℕ) (m a : EReal) : Prop := m = top S n ∧ a = ((num S y n : ℝ) : EReal)

theorem Acc.zero (S : ℕ → EReal) (y : ℕ → ℝ) : Acc S y 0 ⊥ 0 := ⟨(top_zero S).symm, by simp [num]⟩

/-- One chunk: the maximum takes the chunk's scores in, the sum is brought to the new maximum and the chunk's weighted values added. -/
theorem Acc.step {S : ℕ → EReal} {y : ℕ → ℝ} {n k : ℕ} {m a : EReal} (h : Acc S y n m a) (sc : Fin k → EReal) (hs : ∀ t, sc t = S (n + t.val))
    (v : Fin k → EReal) (z : Fin k → ℝ) (hv : ∀ t, v t = (z t : EReal)) (hz : ∀ t : Fin k, S (n + t.val) = ⊥ ∨ z t = y (n + t.val))
    (m' : EReal) (hm : m' = max m (Finset.univ.fold max ⊥ sc)) :
    Acc S y (n + k) m' (Ideal.exp (m - m') * a + ∑ t, Ideal.exp (sc t - m') * v t) := by
  obtain ⟨h1, h2⟩ := h
  have hm' : m' = top S (n + k) := by
    rw [hm, h1, top_add, show sc = fun t : Fin k => S (n + t.val) from funext hs]
  refine ⟨hm', ?_⟩
  have low : m ≤ m' := by rw [hm]; exact le_max_left _ _
  rw [ew_coe low, h2, ← EReal.coe_mul]
  have e2 : (∑ t, Ideal.exp (sc t - m') * v t) = ((∑ t : Fin k, ew (S (n + t.val)) m' * y (n + t.val) : ℝ) : EReal) := by
    rw [← sum_coe]
    refine Finset.sum_congr rfl fun t _ => ?_
    have le : S (n + t.val) ≤ m' := by rw [hm']; exact le_top S (by omega)
    rw [hs, hv, ew_coe le, ← EReal.coe_mul]
    rcases hz t with e | e
    · rw [e, ew_bot, zero_mul, zero_mul]
    · rw [e]
  rw [e2, ← EReal.coe_add]
  congr 1
  unfold num
  rw [Finset.sum_range_add, ← hm', Finset.mul_sum, Finset.sum_range (fun x => ew (S (n + x)) m' * y (n + x))]
  refine congrArg₂ (· + ·) (Finset.sum_congr rfl fun t ht => ?_) rfl
  have le : S t ≤ m := by rw [h1]; exact le_top S (Finset.mem_range.1 ht)
  rw [← h1, ← mul_assoc, ew_mul le low]

theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem sub_top (x : EReal) : x - ⊤ = ⊥ := by rw [sub_eq_add_neg, EReal.neg_top, EReal.add_bot]

theorem div_none : Ideal.div 0 0 = ⊥ := by simp [Ideal.div]

/-- Nothing or an infinity: what the norm of a row sends to 0. -/
def Zi (x : EReal) : Prop := x = 0 ∨ x = ⊤ ∨ x = ⊥

theorem Zi.add {x y : EReal} (hx : Zi x) (hy : Zi y) : Zi (x + y) := by
  rcases hx with rfl | rfl | rfl <;> rcases hy with rfl | rfl | rfl <;> simp [Zi]

theorem Zi.sum {ι : Type} (s : Finset ι) (f : ι → EReal) (h : ∀ i, Zi (f i)) : Zi (∑ i ∈ s, f i) := by
  classical
  induction s using Finset.induction_on with
  | empty => exact .inl (by simp)
  | insert a s ha ih => rw [Finset.sum_insert ha]; exact (h a).add ih

theorem Zi.mul (x : ℝ) {y : EReal} (hy : y = ⊤ ∨ y = ⊥) : Zi ((x : EReal) * y) := by
  rcases lt_trichotomy x 0 with h | h | h
  · rcases hy with rfl | rfl
    · exact .inr (.inr (EReal.coe_mul_top_of_neg h))
    · exact .inr (.inl (EReal.coe_mul_bot_of_neg h))
  · subst h; exact .inl (by simp)
  · rcases hy with rfl | rfl
    · exact .inr (.inl (EReal.coe_mul_top_of_pos h))
    · exact .inr (.inr (EReal.coe_mul_bot_of_pos h))

/-- Weights that sum to 0 are 0. -/
theorem none_left {n : ℕ} (w : Fin n → ℝ) (hw : ∀ t, 0 ≤ w t) (h : ∑ t, w t = 0) (t : Fin n) : w t = 0 :=
  (Finset.sum_eq_zero_iff_of_nonneg fun t _ => hw t).1 h t (Finset.mem_univ t)

/-- The difference of two weighted means against the weighted sum of the differences: equal, or both sent to 0 by a norm, for every column alike. -/
theorem means {n : ℕ} {E : Type} (w0 w1 : Fin n → ℝ) (h0 : ∀ t, 0 ≤ w0 t) (h1 : ∀ t, 0 ≤ w1 t) (l : ℝ) (v : Fin n → E → ℝ) :
    (∀ e, Ideal.div ((∑ t, w0 t * v t e : ℝ) : EReal) ((∑ t, w0 t : ℝ) : EReal) - (l : EReal) * Ideal.div ((∑ t, w1 t * v t e : ℝ) : EReal) ((∑ t, w1 t : ℝ) : EReal)
      = ∑ t, (v t e : EReal) * (Ideal.div (w0 t : EReal) ((∑ t, w0 t : ℝ) : EReal) - (l : EReal) * Ideal.div (w1 t : EReal) ((∑ t, w1 t : ℝ) : EReal)))
    ∨ ∀ e, Zi (Ideal.div ((∑ t, w0 t * v t e : ℝ) : EReal) ((∑ t, w0 t : ℝ) : EReal) - (l : EReal) * Ideal.div ((∑ t, w1 t * v t e : ℝ) : EReal) ((∑ t, w1 t : ℝ) : EReal))
      ∧ Zi (∑ t, (v t e : EReal) * (Ideal.div (w0 t : EReal) ((∑ t, w0 t : ℝ) : EReal) - (l : EReal) * Ideal.div (w1 t : EReal) ((∑ t, w1 t : ℝ) : EReal))) := by
  by_cases d0 : (∑ t, w0 t) = 0
  · right
    intro e
    have z := none_left w0 h0 d0
    have en : (∑ t, w0 t * v t e) = 0 := Finset.sum_eq_zero fun t _ => by rw [z t, zero_mul]
    rw [d0, en, EReal.coe_zero, div_none]
    refine ⟨.inr (.inr (EReal.bot_sub _)), Zi.sum _ _ fun t => ?_⟩
    rw [z t, EReal.coe_zero, div_none, EReal.bot_sub]
    exact Zi.mul _ (.inr rfl)
  · by_cases d1 : (∑ t, w1 t) = 0
    · have z := none_left w1 h1 d1
      have en : ∀ e, (∑ t, w1 t * v t e) = 0 := fun e => Finset.sum_eq_zero fun t _ => by rw [z t, zero_mul]
      rcases lt_trichotomy l 0 with hl | hl | hl
      · right
        intro e
        rw [d1, en, EReal.coe_zero, div_none, EReal.coe_mul_bot_of_neg hl, div_coe _ _ d0, sub_top]
        refine ⟨.inr (.inr rfl), Zi.sum _ _ fun t => ?_⟩
        rw [z t, EReal.coe_zero, div_none, EReal.coe_mul_bot_of_neg hl, div_coe _ _ d0, sub_top]
        exact Zi.mul _ (.inr rfl)
      · left
        intro e
        subst hl
        rw [EReal.coe_zero, zero_mul, sub_zero, div_coe _ _ d0, Finset.sum_div, ← sum_coe]
        refine Finset.sum_congr rfl fun t _ => ?_
        rw [zero_mul, sub_zero, div_coe _ _ d0, ← EReal.coe_mul]
        congr 1
        ring
      · right
        intro e
        rw [d1, en, EReal.coe_zero, div_none, EReal.coe_mul_bot_of_pos hl, div_coe _ _ d0, EReal.coe_sub_bot]
        refine ⟨.inr (.inl rfl), Zi.sum _ _ fun t => ?_⟩
        rw [z t, EReal.coe_zero, div_none, EReal.coe_mul_bot_of_pos hl, div_coe _ _ d0, EReal.coe_sub_bot]
        exact Zi.mul _ (.inl rfl)
    · left
      intro e
      rw [div_coe _ _ d0, div_coe _ _ d1, ← EReal.coe_mul, ← EReal.coe_sub, Finset.sum_div, Finset.sum_div, Finset.mul_sum, ← Finset.sum_sub_distrib, ← sum_coe]
      refine Finset.sum_congr rfl fun t _ => ?_
      rw [div_coe _ _ d0, div_coe _ _ d1, ← EReal.coe_mul, ← EReal.coe_sub, ← EReal.coe_mul]
      congr 1
      ring

/-- A real factor that is not negative goes through a sum. -/
theorem sum_mul_nonneg {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

end Cert.Online
-- ==== Proof.Chunk.lean ====
module
public import proofs.«01_k».proof.Proof.Read
public import proofs.«01_k».proof.Proof.Online
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Online

theorem sel_sle {α : Type} (x y : BitVec 32) (a b : α) : Scalar.select (IntOp.cmpi .sle x y) a b = if x.toInt ≤ y.toInt then a else b := by
  unfold Scalar.select IntOp.cmpi
  by_cases h : x.toInt ≤ y.toInt <;> simp [BitVec.sle, h]
theorem sel_slt {α : Type} (x y : BitVec 32) (a b : α) : Scalar.select (IntOp.cmpi .slt x y) a b = if x.toInt < y.toInt then a else b := by
  unfold Scalar.select IntOp.cmpi
  by_cases h : x.toInt < y.toInt <;> simp [BitVec.slt, h]
theorem sel_sge {α : Type} (x y : BitVec 32) (a b : α) : Scalar.select (IntOp.cmpi .sge x y) a b = if y.toInt ≤ x.toInt then a else b := by
  unfold Scalar.select IntOp.cmpi
  by_cases h : y.toInt ≤ x.toInt <;> simp [BitVec.sle, h]

theorem isInt_nat (c : ℕ) (hc : c < 2 ^ 31) : Affine.IsInt (BitVec.ofNat 32 c) (c : Int) := Affine.ofNat _ ⟨rfl, hc⟩

theorem toInt_of {x : BitVec 32} {e : Int} (h : Affine.IsInt x e) : x.toInt = e := by
  unfold Affine.IsInt at h
  exact h

theorem isInt_pos {c t : ℕ} (hc : c ≤ 9) (ht : t < 512) :
    Affine.IsInt (IntOp.addi (Scalar.muli (BitVec.ofNat 32 c) 512#32) (BitVec.ofNat 32 t)) (512 * c + t : Int) :=
  Affine.addi (Affine.muli (isInt_nat c (by omega)) (isInt_nat 512 (by omega)) (e := 512 * c) ⟨by push_cast; ring, by omega, by omega⟩)
    (isInt_nat t (by omega)) ⟨rfl, by omega, by omega⟩

theorem bias_int {c t n : ℕ} (hc : c ≤ 9) (ht : t < 512) (hn : n < 8) :
    (IntOp.subi (IntOp.addi (Scalar.muli (BitVec.ofNat 32 c) 512#32) (BitVec.ofNat 32 t)) (Scalar.muli (BitVec.ofNat 32 n) 512#32)).toInt
      = (512 * c + t - 512 * n : Int) :=
  toInt_of (Affine.subi (isInt_pos hc ht) (Affine.muli (isInt_nat n (by omega)) (isInt_nat 512 (by omega)) (e := 512 * n) ⟨by push_cast; ring, by omega, by omega⟩)
    ⟨rfl, by omega, by omega⟩)

section
variable (n : ℕ) (Q : Fin 512 → Fin 128 → EReal) (K : ℕ → Fin 128 → EReal) (V : ℕ → Fin 256 → ℝ) (sl : ℝ)

/-- A query's product with a key. -/
def dotR (r : Fin 512) (t : ℕ) : EReal := ∑ d : Fin 128, Q r d * K t d

/-- A key's score for a query: −∞ where the key comes after the query. -/
def scr (r : Fin 512) (t : ℕ) : EReal := if t ≤ 512 * n + r.val then dotR Q K r t + ((sl * ((t : ℝ) - 512 * n) : ℝ) : EReal) else ⊥

/-- The scores held are chunk `c`'s. -/
def Keeps (c : ℕ) (s : Vec Ideal S1x512x512 .f32) : Prop :=
  c ≤ n → ∀ r t : Fin 512, s (ix3 0 r t) = dotR Q K r (512 * c + t.val)

/-- The maxima and sums are those of the first `c` chunks. -/
def Rows (c : ℕ) (m : Vec Ideal S1x512x1 .f32) (a : Vec Ideal S1x512x256 .f32) : Prop :=
  ∀ (r : Fin 512) (e : Fin 256), Acc (scr n Q K sl r) (fun t => V t e) (512 * c) (m (ix3 0 r 0)) (a (ix3 0 r e))

variable {n Q K V sl}

theorem keeps_dotK (hn : n < 8) (q : FVec Ideal S512x128 .bf16) (hq : ∀ r d, q (ix2 r d) = Q r d)
    (x2 : Vec Ideal S1x4096x128 .bf16) (hk : ∀ (t : ℕ) (ht : t < 4096) (d : Fin 128), x2 (ix3 0 ⟨t, ht⟩ d) = K t d)
    (o : Fin 3 → Nat) (c : ℕ) (ho : o = ![0, 512 * min c n, 0]) (h) : Keeps n Q K c (dotK q (keys x2 o h)) := by
  intro hc r t
  rw [dotK_apply, dotR]
  refine Finset.sum_congr rfl fun d _ => ?_
  rw [min_eq_left hc] at ho
  rw [keys_apply x2 o _ ho h t d (by omega), hq, hk]

theorem open_val {c : ℕ} (hn : n < 8) (hc : c ≤ n) {s : Vec Ideal S1x512x512 .f32} (hs : Keeps n Q K c s) (r t : Fin 512) :
    openSc (Scalar.muli (BitVec.ofNat 32 n) 512#32) (sl : EReal) (BitVec.ofNat 32 c) s (ix2 r t)
      = dotR Q K r (512 * c + t.val) + ((sl * (((512 * c + t.val : ℕ) : ℝ) - 512 * n) : ℝ) : EReal) := by
  rw [openSc_apply, hs hc r t]
  show _ + (sl : EReal) * ((((IntOp.subi _ _ : BitVec 32).toInt : ℝ)) : EReal) = _
  rw [bias_int (by omega) t.isLt hn, ← EReal.coe_mul]
  push_cast
  rfl

theorem sc_open {c : ℕ} (hn : n < 8) (hc : c < n) {s : Vec Ideal S1x512x512 .f32} (hs : Keeps n Q K c s) (r t : Fin 512) :
    openSc (Scalar.muli (BitVec.ofNat 32 n) 512#32) (sl : EReal) (BitVec.ofNat 32 c) s (ix2 r t) = scr n Q K sl r (512 * c + t.val) := by
  rw [open_val hn hc.le hs r t, scr, if_pos (by omega)]

theorem sc_shut {c : ℕ} (i : grid0.Coords) (hi : (i 2).val = n) (hc : c ≤ n + 1) {s : Vec Ideal S1x512x512 .f32} (hs : Keeps n Q K c s) (r t : Fin 512) :
    shutSc (Scalar.muli (BitVec.ofNat 32 n) 512#32) (sl : EReal) (k0_pay61 i) (BitVec.ofNat 32 c) s (ix2 r t) = scr n Q K sl r (512 * c + t.val) := by
  have hn : n < 8 := hi ▸ (i 2).isLt
  rw [shutSc_apply, sel_sle, hi, toInt_of (isInt_pos (by omega) t.isLt), toInt_of (isInt_pos (by omega) r.isLt), scr]
  by_cases h : 512 * c + t.val ≤ 512 * n + r.val
  · rw [if_pos (by omega), if_pos h]
    exact open_val hn (by omega) hs r t
  · rw [if_neg (by omega), if_neg h]

theorem rows_step {c : ℕ} (hn : n < 8) {m : Vec Ideal S1x512x1 .f32} {a : Vec Ideal S1x512x256 .f32} (h : Rows n Q K V sl c m a)
    (sc : FVec Ideal S512x512 .f32) (hs : ∀ r t : Fin 512, sc (ix2 r t) = scr n Q K sl r (512 * c + t.val))
    (x3 : Vec Ideal S1x4096x256 .bf16) (hv : ∀ (t : ℕ) (ht : t < 4096) (e : Fin 256), x3 (ix3 0 ⟨t, ht⟩ e) = ((V t e : ℝ) : EReal))
    (o : Fin 3 → Nat) (ho : o = ![0, 512 * min c n, 0]) (hin) :
    Rows n Q K V sl (c + 1) (stepM sc m) (stepA sc m (vals x3 o hin) a) := by
  intro r e
  have st := (h r e).step (fun t : Fin 512 => sc (ix2 r t)) (hs r)
    (fun t => vals x3 o hin (ix3 0 t e)) (fun t => V (512 * min c n + t.val) e)
    (fun t => by rw [vals_apply x3 o _ ho hin t e (by omega), hv])
    (fun t => by
      by_cases hc : c ≤ n
      · right; rw [min_eq_left hc]
      · left; rw [scr, if_neg (by omega)])
    (stepM sc m (ix3 0 r 0)) (stepM_apply sc m r)
  rw [← stepA_apply] at st
  exact st

end

end Cert.KernelIdeal.Att
-- ==== Proof.Block.lean ====
module
public import proofs.«01_k».proof.Proof.Chunk
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Online

theorem trips_eq : ∀ i : grid0.Coords, (k0_t1_loop i).trips = (i 2).val / 2 := by decide +kernel

theorem lastW_eq : ∀ i : grid0.Coords, lastW i = BitVec.ofNat 32 (2 * ((i 2).val / 2)) := by decide +kernel

theorem w1_eq (i : grid0.Coords) (k : Fin (k0_t1_loop i).trips) : w1 i k = BitVec.ofNat 32 (2 * k.val) := by
  have hk : k.val < 4 := lt_of_lt_of_le k.isLt (by rw [trips_eq]; have := (i 2).isLt; have : (i 2).val < 8 := this; omega)
  apply BitVec.eq_of_toInt_eq
  rw [toInt_of (isInt_nat (2 * k.val) (by omega))]
  exact toInt_of (Affine.muli (isInt_nat 2 (by omega)) (Affine.iv (isInt_nat 0 (by omega)) (isInt_nat 1 (by omega)) k.val (e := k.val) ⟨by push_cast; ring, by omega, by omega⟩)
    ⟨by push_cast; ring, by omega, by omega⟩)

theorem succ_eq (c : ℕ) : Scalar.addi (BitVec.ofNat 32 c) 1#32 = BitVec.ofNat 32 (c + 1) := by
  show BitVec.ofNat 32 c + 1#32 = _
  rw [BitVec.ofNat_add]

/-- The queries' first half and second half, the other half's columns 0. -/
def halfA (Q : Fin 512 → Fin 128 → EReal) (r : Fin 512) (d : Fin 128) : EReal := if d.val < 64 then Q r d else 0
@[inherit_doc halfA]
def halfB (Q : Fin 512 → Fin 128 → EReal) (r : Fin 512) (d : Fin 128) : EReal := if 64 ≤ d.val then Q r d else 0

section
variable {n : ℕ} {K : ℕ → Fin 128 → EReal} {V : ℕ → Fin 256 → ℝ} {sl : ℝ}

/-- Past the chunks taken in every score is −∞. -/
theorem scr_end (hn : n < 8) (Q : Fin 512 → Fin 128 → EReal) (r : Fin 512) (t : ℕ) (ht : 512 * (2 * (n / 2) + 2) ≤ t) : scr n Q K sl r t = ⊥ := by
  rw [scr, if_neg (by omega)]

/-- A query's weighted sum over one half of its columns, at one column of the values, and its weights' sum. -/
def attN (n : ℕ) (Q : Fin 512 → Fin 128 → EReal) (K : ℕ → Fin 128 → EReal) (V : ℕ → Fin 256 → ℝ) (sl : ℝ) (r : Fin 512) (e : Fin 256) : ℝ :=
  num (scr n Q K sl r) (fun t => V t e) 4096
@[inherit_doc attN]
def attD (n : ℕ) (Q : Fin 512 → Fin 128 → EReal) (K : ℕ → Fin 128 → EReal) (sl : ℝ) (r : Fin 512) : ℝ :=
  num (scr n Q K sl r) (fun _ => 1) 4096

theorem att_val (hn : n < 8) (Q : Fin 512 → Fin 128 → EReal) (hone : ∀ (t : ℕ) (ht : t < 4096) (e : Fin 256), 128 ≤ e.val → V t e = 1)
    {m : Vec Ideal S1x512x1 .f32} {a : Vec Ideal S1x512x256 .f32} (h : Rows n Q K V sl (2 * (n / 2) + 2) m a) (r : Fin 512) (x : Fin 128) :
    Ideal.div (a (ix3 0 r ⟨x.val, by omega⟩)) (a (ix3 0 r ⟨128 + x.val, by omega⟩))
      = Ideal.div ((attN n Q K V sl r ⟨x.val, by omega⟩ : ℝ) : EReal) ((attD n Q K sl r : ℝ) : EReal) := by
  have h1 := (h r ⟨x.val, by omega⟩).2
  have h2 := (h r ⟨128 + x.val, by omega⟩).2
  have hb : ∀ t, 512 * (2 * (n / 2) + 2) ≤ t → t < 4096 → scr n Q K sl r t = ⊥ := fun t ht _ => scr_end hn Q r t ht
  rw [← num_end _ _ (by omega) hb] at h1 h2
  rw [h1, h2, attN, attD]
  congr 2
  exact num_congr _ _ _ fun t ht => hone t ht _ (by show 128 ≤ 128 + x.val; omega)

end

section
variable (i : grid0.Coords) {n : ℕ} (hi : (i 2).val = n) {Q : Fin 512 → Fin 128 → EReal} {K : ℕ → Fin 128 → EReal} {V : ℕ → Fin 256 → ℝ} {sl : ℝ}
  (x0 : Vec Ideal S4 .f32) (x1 : Vec Ideal S1x512x128 .bf16) (x2 : Vec Ideal S1x4096x128 .bf16) (x3 : Vec Ideal S1x4096x256 .bf16)
  (x4 : Vec Ideal S4x64 .f32) (x5 : Vec Ideal S1x128 .f32)
  (hsl : x0 (ix1 (i 1)) = (sl : EReal))
  (hq : ∀ (r : Fin 512) (d : Fin 128), x1 (ix3 0 r d) = Q r d)
  (hk : ∀ (t : ℕ) (ht : t < 4096) (d : Fin 128), x2 (ix3 0 ⟨t, ht⟩ d) = K t d)
  (hv : ∀ (t : ℕ) (ht : t < 4096) (e : Fin 256), x3 (ix3 0 ⟨t, ht⟩ e) = ((V t e : ℝ) : EReal))

include hq in
theorem qa_val (r : Fin 512) (d : Fin 128) : qa x1 (ix2 r d) = halfA Q r d := by
  rw [qa_apply, sel_slt, toInt_of (isInt_nat d.val (by omega)), toInt_of (isInt_nat 64 (by omega)), halfA, hq]
  by_cases h : d.val < 64
  · rw [if_pos h, if_pos (by omega)]
  · rw [if_neg h, if_neg (by omega)]
include hq in
theorem qb_val (r : Fin 512) (d : Fin 128) : qb x1 (ix2 r d) = halfB Q r d := by
  rw [qb_apply, sel_sge, toInt_of (isInt_nat d.val (by omega)), toInt_of (isInt_nat 64 (by omega)), halfB, hq]
  by_cases h : 64 ≤ d.val
  · rw [if_pos h, if_pos (by omega)]
  · rw [if_neg h, if_neg (by omega)]

/-- The state carried after `c` chunks: both halves' maxima and sums are of those chunks, the scores the next chunk's. -/
structure Good (n : ℕ) (Q : Fin 512 → Fin 128 → EReal) (K : ℕ → Fin 128 → EReal) (V : ℕ → Fin 256 → ℝ) (sl : ℝ) (c : ℕ) (s : St Ideal) : Prop where
  r0 : Rows n (halfA Q) K V sl c s.m0 s.a0
  r1 : Rows n (halfB Q) K V sl c s.m1 s.a1
  k0 : Keeps n (halfA Q) K c s.s0
  k1 : Keeps n (halfB Q) K c s.s1

include hi hq hk in
theorem good_init : Good n Q K V sl 0 (initSt i x1 x2) where
  r0 := fun r e => by rw [init_m0, init_a0]; exact Acc.zero _ _
  r1 := fun r e => by rw [init_m1, init_a1]; exact Acc.zero _ _
  k0 := by
    rw [initSt_s0]
    exact keeps_dotK (hi ▸ (i 2).isLt) _ (qa_val x1 hq) x2 hk _ 0 (by rw [k0_off2_eq]; simp) _
  k1 := by
    rw [initSt_s1]
    exact keeps_dotK (hi ▸ (i 2).isLt) _ (qb_val x1 hq) x2 hk _ 0 (by rw [k0_off2_eq]; simp) _

include hi hq hk hv in
theorem good_trip (k : Fin (k0_t1_loop i).trips) (s : St Ideal) (g : Good n Q K V sl (2 * k.val) s) :
    Good n Q K V sl (2 * (k.val + 1)) (trip i (q0W i) (sl : EReal) (qa x1) (qb x1) colW x2 x3 k s) := by
  have hn : n < 8 := hi ▸ (i 2).isLt
  have hk2 : k.val < n / 2 := lt_of_lt_of_eq k.isLt ((trips_eq i).trans (by rw [hi]))
  have o1 : k0_off3 i k (BitVec.ofNat 32 (1 + ((0 : Fin 2) : ℕ))) = ![0, 512 * min (2 * k.val + 1) n, 0] := by rw [k0_off3_eq i k 0, hi]; rfl
  have o2 : k0_off3 i k (BitVec.ofNat 32 (1 + ((1 : Fin 2) : ℕ))) = ![0, 512 * min (2 * (k.val + 1)) n, 0] := by
    rw [k0_off3_eq i k 1, hi]; rfl
  have o4 : k0_off4 i k = ![0, 512 * min (2 * k.val) n, 0] := by rw [k0_off4_eq i k, hi]
  have o5 : k0_off5 i k = ![0, 512 * min (2 * k.val + 1) n, 0] := by rw [k0_off5_eq i k, hi]
  rw [trip_eq]
  have e0 : q0W i = Scalar.muli (BitVec.ofNat 32 n) 512#32 := by rw [← hi]; rfl
  rw [e0, w2, w1_eq, succ_eq]
  have kA := keeps_dotK (K := K) hn _ (qa_val x1 hq) x2 hk _ _ o1 (k0_off3_inb i k 0)
  have kB := keeps_dotK (K := K) hn _ (qb_val x1 hq) x2 hk _ _ o1 (k0_off3_inb i k 0)
  exact {
    r0 := rows_step hn (rows_step hn g.r0 _ (sc_open hn (by omega) g.k0) x3 hv _ o4 _) _ (sc_open hn (by omega) kA) x3 hv _ o5 _
    r1 := rows_step hn (rows_step hn g.r1 _ (sc_open hn (by omega) g.k1) x3 hv _ o4 _) _ (sc_open hn (by omega) kB) x3 hv _ o5 _
    k0 := keeps_dotK hn _ (qa_val x1 hq) x2 hk _ _ o2 _
    k1 := keeps_dotK hn _ (qb_val x1 hq) x2 hk _ _ o2 _ }

include hi hq hk hv in
theorem good_loop (j : ℕ) (hj : j ≤ (k0_t1_loop i).trips) :
    Good n Q K V sl (2 * j) (loopSt i (q0W i) (sl : EReal) (qa x1) (qb x1) colW x2 x3 (initSt i x1 x2) j) := by
  induction j with
  | zero => exact good_init i hi x1 x2 hq hk
  | succ j ih =>
    rw [loopSt, dif_pos (show j < (k0_t1_loop i).trips by omega)]
    exact good_trip i hi x1 x2 x3 hq hk hv ⟨j, by omega⟩ _ (ih (by omega))

include hi hq hk hv in
theorem good_last (s : St Ideal) (g : Good n Q K V sl (2 * (n / 2)) s) :
    Rows n (halfA Q) K V sl (2 * (n / 2) + 2) (last i (q0W i) (sl : EReal) (qa x1) (qb x1) (k0_pay61 i) colW (lastW i) x2 x3 s).m0
      (last i (q0W i) (sl : EReal) (qa x1) (qb x1) (k0_pay61 i) colW (lastW i) x2 x3 s).a0 ∧
    Rows n (halfB Q) K V sl (2 * (n / 2) + 2) (last i (q0W i) (sl : EReal) (qa x1) (qb x1) (k0_pay61 i) colW (lastW i) x2 x3 s).m1
      (last i (q0W i) (sl : EReal) (qa x1) (qb x1) (k0_pay61 i) colW (lastW i) x2 x3 s).a1 := by
  have hn : n < 8 := hi ▸ (i 2).isLt
  have o9 : k0_off9 i (BitVec.ofNat 32 (1 + ((0 : Fin 2) : ℕ))) = ![0, 512 * min (2 * (n / 2) + 1) n, 0] := by
    rw [k0_off9_eq i 0, hi, show 2 * ((n + 2) / 2) + ((0 : Fin 2) : ℕ) - 1 = 2 * (n / 2) + 1 by simp; omega]
  have o10 : k0_off10 i = ![0, 512 * min (2 * (n / 2)) n, 0] := by
    rw [k0_off10_eq i, hi, show 2 * ((n + 2) / 2) - 2 = 2 * (n / 2) by omega]
  have o11 : k0_off11 i = ![0, 512 * min (2 * (n / 2) + 1) n, 0] := by
    rw [k0_off11_eq i, hi, show 2 * ((n + 2) / 2) - 1 = 2 * (n / 2) + 1 by omega]
  rw [last_eq]
  have e0 : q0W i = Scalar.muli (BitVec.ofNat 32 n) 512#32 := by rw [← hi]; rfl
  rw [e0, lastW_eq, hi, succ_eq]
  have kA := keeps_dotK (K := K) hn _ (qa_val x1 hq) x2 hk _ _ o9 (k0_off9_inb i 0)
  have kB := keeps_dotK (K := K) hn _ (qb_val x1 hq) x2 hk _ _ o9 (k0_off9_inb i 0)
  exact ⟨rows_step hn (rows_step hn g.r0 _ (sc_shut i hi (by omega) g.k0) x3 hv _ o10 _) _ (sc_shut i hi (by omega) kA) x3 hv _ o11 _,
    rows_step hn (rows_step hn g.r1 _ (sc_shut i hi (by omega) g.k1) x3 hv _ o10 _) _ (sc_shut i hi (by omega) kB) x3 hv _ o11 _⟩

include hi hsl hq hk hv in
/-- The block written, in numbers. -/
theorem block_value (hone : ∀ (t : ℕ) (ht : t < 4096) (e : Fin 256), 128 ≤ e.val → V t e = 1) (r : Fin 512) (e : Fin 128) :
    blockOut i x0 x1 x2 x3 x4 x5 (ix3 0 r e) = normRow (fun x : Fin 128 =>
      Ideal.div ((attN n (halfA Q) K V sl r ⟨x.val, by omega⟩ : ℝ) : EReal) ((attD n (halfA Q) K sl r : ℝ) : EReal)
        - lamOf (fun p d => x4 (ix2 p d)) * Ideal.div ((attN n (halfB Q) K V sl r ⟨x.val, by omega⟩ : ℝ) : EReal) ((attD n (halfB Q) K sl r : ℝ) : EReal)) (x5 (ix2 0 e)) e := by
  have hn : n < 8 := hi ▸ (i 2).isLt
  have es : slopeW i x0 = (sl : EReal) := (slope_apply i x0).trans hsl
  unfold blockOut
  rw [es]
  have g := good_loop (sl := sl) i hi x1 x2 x3 hq hk hv (k0_t1_loop i).trips le_rfl
  have gl := good_last i hi x1 x2 x3 hq hk hv _ (by rw [trips_eq, hi] at g; exact g)
  rw [trips_eq, hi, finish_apply]
  congr 1
  funext x
  rw [att_val hn _ hone gl.1 r x, att_val hn _ hone gl.2 r x]

end

end Cert.KernelIdeal.Att
-- ==== Proof.Vals.lean ====
module
public import proofs.«01_k».proof.Proof.Launch
public import Idealize.ShloMosaic.Lib.StableHlo.Run
public import Idealize.ShloMosaic.Lib.Pipeline.Value
public import Idealize.ShloMosaic.Lib.Pointwise
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section
variable {F : FTy → Type} [FloatOps F] [Named F]
variable (m : (ℓ : Loc nD τ sig) → Buf (Elt F) ℓ) (c : Dev nD)

/-- The queries as the launch finds them: scaled, in rows of all heads. -/
def hostQ (q : FVec F S8x4096x4x2x64 .f32) : FVec F S8x4096x512 .bf16 :=
  truncf .bf16 (mulf (shapeCast S8x4096x512 q shapeCasts_S8x4096x4x2x64_S8x4096x512)
    (broadcastInDim S8x4096x512 ![] bcast_S_S8x4096x512 (constant S_ .f32 0x3E000000#32))) bitsLt_bf16_f32

/-- The keys. -/
def hostK (k : FVec F S8x4096x4x2x64 .f32) : FVec F S8x4096x512 .bf16 :=
  truncf .bf16 (shapeCast S8x4096x512 k shapeCasts_S8x4096x4x2x64_S8x4096x512) bitsLt_bf16_f32

/-- The values in rows of all heads. -/
def hostW (v : FVec F S8x4096x4x128 .f32) : FVec F S8x4096x512 .bf16 :=
  truncf .bf16 (shapeCast S8x4096x512 v shapeCasts_S8x4096x4x128_S8x4096x512) bitsLt_bf16_f32

/-- The columns of ones. -/
def ones : FVec F S8x4096x128 .bf16 := broadcastInDim S8x4096x128 ![] bcast_S_S8x4096x128 (constant S_ .bf16 0x3F80#16)

/-- The values, each head's followed by a head's width of ones. -/
def hostV (v : FVec F S8x4096x4x128 .f32) : FVec F S8x4096x1024 .bf16 :=
  concatenate S8x4096x1024 2 [⟨S8x4096x128, extractStridedSlice S8x4096x128 ![0, 0, 0] (hostW v) slices_S8x4096x512_S8x4096x128_0_0_0⟩, ⟨S8x4096x128, ones⟩,
    ⟨S8x4096x128, extractStridedSlice S8x4096x128 ![0, 0, 128] (hostW v) slices_S8x4096x512_S8x4096x128_0_0_128⟩, ⟨S8x4096x128, ones⟩,
    ⟨S8x4096x128, extractStridedSlice S8x4096x128 ![0, 0, 256] (hostW v) slices_S8x4096x512_S8x4096x128_0_0_256⟩, ⟨S8x4096x128, ones⟩,
    ⟨S8x4096x128, extractStridedSlice S8x4096x128 ![0, 0, 384] (hostW v) slices_S8x4096x512_S8x4096x128_0_0_384⟩, ⟨S8x4096x128, ones⟩]
    concatenates_S8x4096x128_S8x4096x128_S8x4096x128_S8x4096x128_S8x4096x128_S8x4096x128_S8x4096x128_S8x4096x128_S8x4096x1024_d2

theorem V_q : V m c main_v3 = hostQ (m ((c.tc : Thread nD τ).loc main_arg0)) := by
  show StableHlo.after hostOps0 _ (Proc.devRef .tc main_v3) = _
  after_results
  rfl
theorem V_k : V m c main_v5 = hostK (m ((c.tc : Thread nD τ).loc main_arg1)) := by
  show StableHlo.after hostOps0 _ (Proc.devRef .tc main_v5) = _
  after_results
  rfl
theorem V_v : V m c main_v13 = hostV (m ((c.tc : Thread nD τ).loc main_arg2)) := by
  show StableHlo.after hostOps0 _ (Proc.devRef .tc main_v13) = _
  after_results
  rfl
theorem V_l : V m c main_v14 = shapeCast S4x64 (m ((c.tc : Thread nD τ).loc main_arg3)) shapeCasts_S1x4x64_S4x64 := by
  show StableHlo.after hostOps0 _ (Proc.devRef .tc main_v14) = _
  after_results
  rfl
theorem V_g : V m c main_v16 = shapeCast S1x128 (shapeCast S128 (m ((c.tc : Thread nD τ).loc main_arg4)) shapeCasts_S1x128_S128) shapeCasts_S128_S1x128 := by
  show StableHlo.after hostOps0 _ (Proc.devRef .tc main_v16) = _
  after_results
  rfl
theorem V_s : V m c main_cst = fun i => FloatOps.ofBits .f32 (lit0 (S4.rowMajor i)) := by
  show StableHlo.after hostOps0 _ (Proc.devRef .tc main_cst) = _
  after_results
  rfl
end
end Cert.KernelIdeal.Att
-- ==== Proof.HostRead.lean ====
module
public import proofs.«01_k».proof.Proof.Vals
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem hostQ_apply (q : FVec Ideal S8x4096x4x2x64 .f32) (b : Fin 8) (s : Fin 4096) (h : Fin 4) (j : Fin 2) (x : Fin 64) (l : Fin 512)
    (hl : l.val = 128 * h.val + 64 * j.val + x.val) : hostQ q (ix3 b s l) = q (ix5 b s h j x) * Ideal.ofBits FTy.f32 0x3E000000#32 := by
  unfold hostQ
  pointwise
  rw [show (⟨l.val / 128, by omega⟩ : Fin 4) = h from Fin.ext (by show l.val / 128 = h.val; omega),
    show (⟨l.val / 64 % 2, by omega⟩ : Fin 2) = j from Fin.ext (by show l.val / 64 % 2 = j.val; omega),
    show (⟨l.val % 64, by omega⟩ : Fin 64) = x from Fin.ext (by show l.val % 64 = x.val; omega)]
theorem hostK_apply (q : FVec Ideal S8x4096x4x2x64 .f32) (b : Fin 8) (s : Fin 4096) (h : Fin 4) (j : Fin 2) (x : Fin 64) (l : Fin 512)
    (hl : l.val = 128 * h.val + 64 * j.val + x.val) : hostK q (ix3 b s l) = q (ix5 b s h j x) := by
  unfold hostK
  pointwise
  rw [show (⟨l.val / 128, by omega⟩ : Fin 4) = h from Fin.ext (by show l.val / 128 = h.val; omega),
    show (⟨l.val / 64 % 2, by omega⟩ : Fin 2) = j from Fin.ext (by show l.val / 64 % 2 = j.val; omega),
    show (⟨l.val % 64, by omega⟩ : Fin 64) = x from Fin.ext (by show l.val % 64 = x.val; omega)]
theorem hostW_apply (v : FVec Ideal S8x4096x4x128 .f32) (b : Fin 8) (s : Fin 4096) (h : Fin 4) (x : Fin 128) (l : Fin 512)
    (hl : l.val = 128 * h.val + x.val) : hostW v (ix3 b s l) = v (ix4 b s h x) := by
  unfold hostW
  pointwise
  rw [show (⟨l.val / 128, by omega⟩ : Fin 4) = h from Fin.ext (by show l.val / 128 = h.val; omega),
    show (⟨l.val % 128, by omega⟩ : Fin 128) = x from Fin.ext (by show l.val % 128 = x.val; omega)]
/-- A head's columns of the values. -/
theorem hostV_lo (v : FVec Ideal S8x4096x4x128 .f32) (b : Fin 8) (s : Fin 4096) (h : Fin 4) (x : Fin 128) (l : Fin 1024)
    (hl : l.val = 256 * h.val + x.val) : hostV v (ix3 b s l) = v (ix4 b s h x) := by
  rw [← hostW_apply v b s h x ⟨128 * h.val + x.val, by omega⟩ rfl]
  unfold hostV
  generalize hostW v = w
  pointwise [ones]
  obtain ⟨l, hl'⟩ := l
  obtain rfl : l = 256 * h.val + x.val := hl
  fin_cases h
  · rw [dif_pos (by simp)]
    congr 2
  · rw [dif_neg (by simp; omega), dif_neg (by simp; omega), dif_pos (by simp; omega)]
    congr 2; apply Fin.ext; simp; omega
  · rw [dif_neg (by simp; omega), dif_neg (by simp; omega), dif_neg (by simp; omega), dif_neg (by simp; omega), dif_pos (by simp; omega)]
    congr 2; apply Fin.ext; simp; omega
  · rw [dif_neg (by simp; omega), dif_neg (by simp; omega), dif_neg (by simp; omega), dif_neg (by simp; omega), dif_neg (by simp; omega), dif_neg (by simp; omega), dif_pos (by simp; omega)]
    congr 2; apply Fin.ext; simp; omega
/-- The ones after them. -/
theorem hostV_hi (v : FVec Ideal S8x4096x4x128 .f32) (b : Fin 8) (s : Fin 4096) (h : Fin 4) (x : Fin 128) (l : Fin 1024)
    (hl : l.val = 256 * h.val + 128 + x.val) : hostV v (ix3 b s l) = 1 := by
  unfold hostV
  generalize hostW v = w
  pointwise [ones]
  obtain ⟨l, hl'⟩ := l
  obtain rfl : l = 256 * h.val + 128 + x.val := hl
  fin_cases h
  · rw [dif_neg (by simp), dif_pos (by simp)]
  · rw [dif_neg (by simp; omega), dif_neg (by simp; omega), dif_neg (by simp; omega), dif_pos (by simp; omega)]
  · rw [dif_neg (by simp; omega), dif_neg (by simp; omega), dif_neg (by simp; omega), dif_neg (by simp; omega), dif_neg (by simp; omega), dif_pos (by simp; omega)]
  · rw [dif_neg (by simp; omega), dif_neg (by simp; omega), dif_neg (by simp; omega), dif_neg (by simp; omega), dif_neg (by simp; omega), dif_neg (by simp; omega), dif_neg (by simp; omega)]
theorem hostL_apply (x : FVec Ideal S1x4x64 .f32) (h) (p : Fin 4) (d : Fin 64) : shapeCast S4x64 x h (ix2 p d) = x (ix3 0 p d) := by
  pointwise
theorem hostG_apply (x : FVec Ideal S1x128 .f32) (h h') (d : Fin 128) : shapeCast S1x128 (shapeCast S128 x h) h' (ix2 0 d) = x (ix2 0 d) := by
  pointwise
end Cert.KernelIdeal.Att
-- ==== Proof.Arr.lean ====
module
public import proofs.«01_k».proof.Proof.Vals
@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section
variable {F : FTy → Type} [FloatOps F] [Named F]
variable (m : (ℓ : Loc nD τ sig) → Buf (Elt F) ℓ) (c : Dev nD)

/-- The grid point of a batch element, a head and a block of queries. -/
def pt (b : Fin 8) (h : Fin 4) (n : Fin 8) : Fin cfg0.N := ⟨b.val * 32 + h.val * 8 + n.val, by rw [show cfg0.N = 256 from N_0]; omega⟩

theorem pt_facts : ∀ (b : Fin 8) (h : Fin 4) (n : Fin 8), (grid0.coords (pt b h n) 0).val = b.val ∧ (grid0.coords (pt b h n) 1).val = h.val ∧ (grid0.coords (pt b h n) 2).val = n.val := by
  decide +kernel

theorem pt_onto : ∀ t : Fin cfg0.N, ∃ b : Fin 8, ∃ h : Fin 4, ∃ n : Fin 8, t = pt b h n := fun t => by
  have ht : t.val < 256 := t.isLt.trans_eq N_0
  exact ⟨⟨t.val / 32, by omega⟩, ⟨t.val / 8 % 4, by omega⟩, ⟨t.val % 8, by omega⟩, Fin.ext (by show t.val = t.val / 32 * 32 + t.val / 8 % 4 * 8 + t.val % 8; omega)⟩

theorem at_facts : ∀ (b : Fin 8) (h : Fin 4) (n : Fin 8),
    (win0_1.index (pt b h n) 0 = b.val ∧ win0_1.index (pt b h n) 1 = n.val ∧ win0_1.index (pt b h n) 2 = h.val)
    ∧ (win0_2.index (pt b h n) 0 = b.val ∧ win0_2.index (pt b h n) 1 = 0 ∧ win0_2.index (pt b h n) 2 = h.val)
    ∧ (win0_3.index (pt b h n) 0 = b.val ∧ win0_3.index (pt b h n) 1 = 0 ∧ win0_3.index (pt b h n) 2 = h.val)
    ∧ (win0_6.index (pt b h n) 0 = b.val ∧ win0_6.index (pt b h n) 1 = n.val ∧ win0_6.index (pt b h n) 2 = h.val)
    ∧ win0_0.index (pt b h n) 0 = 0 ∧ (win0_4.index (pt b h n) 0 = 0 ∧ win0_4.index (pt b h n) 1 = 0)
    ∧ (win0_5.index (pt b h n) 0 = 0 ∧ win0_5.index (pt b h n) 1 = 0) := by decide +kernel

theorem blk_s (b : Fin 8) (h : Fin 4) (n : Fin 8) (y : Fin 4) :
    (iblk m c 0 (pt b h n) : Vec F S4 .f32) (ix1 y) = V m c main_cst (ix1 y) := by
  have hi := (at_facts b h n).2.2.2.2.1
  unfold iblk
  rw [View.read_apply]
  show V m c main_cst _ = V m c main_cst _
  congr 1
  funext a
  apply Fin.ext
  match a with
  | ⟨0, _⟩ => show win0_0.index (pt b h n) 0 * 4 + 1 * y.val = y.val; rw [hi]; omega

theorem blk_q (b : Fin 8) (h : Fin 4) (n : Fin 8) (r : Fin 512) (d : Fin 128) :
    (iblk m c 1 (pt b h n) : Vec F S1x512x128 .bf16) (ix3 0 r d) = V m c main_v3 (ix3 b ⟨512 * n.val + r.val, by omega⟩ ⟨128 * h.val + d.val, by omega⟩) := by
  have hi := (at_facts b h n).1
  unfold iblk
  rw [View.read_apply]
  show V m c main_v3 _ = V m c main_v3 _
  congr 1
  funext a
  apply Fin.ext
  match a with
  | ⟨0, _⟩ => show win0_1.index (pt b h n) 0 * 1 + 1 * 0 = b.val; rw [hi.1]; omega
  | ⟨1, _⟩ => show win0_1.index (pt b h n) 1 * 512 + 1 * r.val = 512 * n.val + r.val; rw [hi.2.1]; omega
  | ⟨2, _⟩ => show win0_1.index (pt b h n) 2 * 128 + 1 * d.val = 128 * h.val + d.val; rw [hi.2.2]; omega

theorem blk_k (b : Fin 8) (h : Fin 4) (n : Fin 8) (r : Fin 4096) (d : Fin 128) :
    (iblk m c 2 (pt b h n) : Vec F S1x4096x128 .bf16) (ix3 0 r d) = V m c main_v5 (ix3 b r ⟨128 * h.val + d.val, by omega⟩) := by
  have hi := (at_facts b h n).2.1
  unfold iblk
  rw [View.read_apply]
  show V m c main_v5 _ = V m c main_v5 _
  congr 1
  funext a
  apply Fin.ext
  match a with
  | ⟨0, _⟩ => show win0_2.index (pt b h n) 0 * 1 + 1 * 0 = b.val; rw [hi.1]; omega
  | ⟨1, _⟩ => show win0_2.index (pt b h n) 1 * 4096 + 1 * r.val = r.val; rw [hi.2.1]; omega
  | ⟨2, _⟩ => show win0_2.index (pt b h n) 2 * 128 + 1 * d.val = 128 * h.val + d.val; rw [hi.2.2]; omega

theorem blk_v (b : Fin 8) (h : Fin 4) (n : Fin 8) (r : Fin 4096) (d : Fin 256) :
    (iblk m c 3 (pt b h n) : Vec F S1x4096x256 .bf16) (ix3 0 r d) = V m c main_v13 (ix3 b r ⟨256 * h.val + d.val, by omega⟩) := by
  have hi := (at_facts b h n).2.2.1
  unfold iblk
  rw [View.read_apply]
  show V m c main_v13 _ = V m c main_v13 _
  congr 1
  funext a
  apply Fin.ext
  match a with
  | ⟨0, _⟩ => show win0_3.index (pt b h n) 0 * 1 + 1 * 0 = b.val; rw [hi.1]; omega
  | ⟨1, _⟩ => show win0_3.index (pt b h n) 1 * 4096 + 1 * r.val = r.val; rw [hi.2.1]; omega
  | ⟨2, _⟩ => show win0_3.index (pt b h n) 2 * 256 + 1 * d.val = 256 * h.val + d.val; rw [hi.2.2]; omega

theorem blk_l (b : Fin 8) (h : Fin 4) (n : Fin 8) (p : Fin 4) (d : Fin 64) :
    (iblk m c 4 (pt b h n) : Vec F S4x64 .f32) (ix2 p d) = V m c main_v14 (ix2 p d) := by
  have hi := (at_facts b h n).2.2.2.2.2.1
  unfold iblk
  rw [View.read_apply]
  show V m c main_v14 _ = V m c main_v14 _
  congr 1
  funext a
  apply Fin.ext
  match a with
  | ⟨0, _⟩ => show win0_4.index (pt b h n) 0 * 4 + 1 * p.val = p.val; rw [hi.1]; omega
  | ⟨1, _⟩ => show win0_4.index (pt b h n) 1 * 64 + 1 * d.val = d.val; rw [hi.2]; omega

theorem blk_g (b : Fin 8) (h : Fin 4) (n : Fin 8) (d : Fin 128) :
    (iblk m c 5 (pt b h n) : Vec F S1x128 .f32) (ix2 0 d) = V m c main_v16 (ix2 0 d) := by
  have hi := (at_facts b h n).2.2.2.2.2.2
  unfold iblk
  rw [View.read_apply]
  show V m c main_v16 _ = V m c main_v16 _
  congr 1
  funext a
  apply Fin.ext
  match a with
  | ⟨0, _⟩ => show win0_5.index (pt b h n) 0 * 1 + 1 * 0 = 0; rw [hi.1]
  | ⟨1, _⟩ => show win0_5.index (pt b h n) 1 * 128 + 1 * d.val = d.val; rw [hi.2]; omega

/-- The array of results: each grid point's block in its place. -/
def result : FVec F S8x4096x512 .bf16 := fun j =>
  outAt m c (pt (j 0) ⟨(j 2).val / 128, by have : (j 2).val < 512 := (j 2).isLt; omega⟩ ⟨(j 1).val / 512, by have : (j 1).val < 4096 := (j 1).isLt; omega⟩)
    (ix3 0 ⟨(j 1).val % 512, by omega⟩ ⟨(j 2).val % 128, by omega⟩)

theorem flushed_eq (t : Fin cfg0.N) : (dat m 0 c).flushed 6 t = ((cfg0.win 6).blk t).view.read (Elt F) (result m c) := by
  obtain ⟨b, h, n, rfl⟩ := pt_onto t
  have hi := (at_facts b h n).2.2.2.1
  show (cfg0.win 6).cut (grid0.coords (pt b h n)) ((dat m 0 c).after 6 (pt b h n)) = _
  rw [aft6]
  funext y
  rw [View.read_apply]
  have hy1 : (y 1).val < 512 := (y 1).isLt
  have hy2 : (y 2).val < 128 := (y 2).isLt
  have hy0 : (y 0).val < 1 := (y 0).isLt
  have key : ∀ j : S8x4096x512.Idx, (j 0).val = b.val → (j 1).val = 512 * n.val + (y 1).val → (j 2).val = 128 * h.val + (y 2).val →
      outAt m c (pt b h n) ((cfg0.win 6).xinj (grid0.coords (pt b h n)) y) = result m c j := by
    intro j e0 e1 e2
    unfold result
    rw [show j 0 = b from Fin.ext e0, show (⟨(j 2).val / 128, by have : (j 2).val < 512 := (j 2).isLt; omega⟩ : Fin 4) = h from Fin.ext (by show (j 2).val / 128 = h.val; omega),
      show (⟨(j 1).val / 512, by have : (j 1).val < 4096 := (j 1).isLt; omega⟩ : Fin 8) = n from Fin.ext (by show (j 1).val / 512 = n.val; omega)]
    congr 1
    funext a
    apply Fin.ext
    match a with
    | ⟨0, _⟩ => show (y 0).val = 0; omega
    | ⟨1, _⟩ => show (y 1).val = (j 1).val % 512; omega
    | ⟨2, _⟩ => show (y 2).val = (j 2).val % 128; omega
  refine key _ ?_ ?_ ?_
  · show win0_6.index (pt b h n) 0 * 1 + 1 * (y 0).val = b.val; rw [hi.1]; omega
  · show win0_6.index (pt b h n) 1 * 512 + 1 * (y 1).val = 512 * n.val + (y 1).val; rw [hi.2.1]; omega
  · show win0_6.index (pt b h n) 2 * 128 + 1 * (y 2).val = 128 * h.val + (y 2).val; rw [hi.2.2]; omega

theorem mem_blk (t : Fin cfg0.N) (j : S8x4096x512.Idx) : j ∈ ((cfg0.win 6).blk t).view.set ↔
    ∀ a : Fin 3, win0_6.index t a * win0_6.size a ≤ (j a).val ∧ (j a).val < win0_6.index t a * win0_6.size a + win0_6.xsize (grid0.coords t) a := by
  show j ∈ ((View.whole main_v17).slice (win0_6.rect t)).set ↔ _
  rw [View.set_slice_whole, Rect.mem_set_unit]
  exact Iff.rfl

theorem result_all : (dat m 0 c).arrAt 6 cfg0.N = result m c :=
  (dat m 0 c).arrAt_eq_of_cover 6 (result m c) (fun t _ => flushed_eq m c t) fun j => by
    have h0 : (j 0).val < 8 := (j 0).isLt
    have h1 : (j 1).val < 4096 := (j 1).isLt
    have h2 : (j 2).val < 512 := (j 2).isLt
    refine ⟨pt ⟨(j 0).val, h0⟩ ⟨(j 2).val / 128, by omega⟩ ⟨(j 1).val / 512, by omega⟩, flush0_6 _, ?_⟩
    have hi := (at_facts ⟨(j 0).val, h0⟩ ⟨(j 2).val / 128, by omega⟩ ⟨(j 1).val / 512, by omega⟩).2.2.2.1
    rw [mem_blk]
    intro a
    match a with
    | ⟨0, _⟩ =>
      show win0_6.index _ 0 * 1 ≤ (j 0).val ∧ (j 0).val < win0_6.index _ 0 * 1 + 1
      rw [hi.1]; dsimp only; omega
    | ⟨1, _⟩ =>
      show win0_6.index _ 1 * 512 ≤ (j 1).val ∧ (j 1).val < win0_6.index _ 1 * 512 + 512
      rw [hi.2.1]; dsimp only; omega
    | ⟨2, _⟩ =>
      show win0_6.index _ 2 * 128 ≤ (j 2).val ∧ (j 2).val < win0_6.index _ 2 * 128 + 128
      rw [hi.2.2]; dsimp only; omega

/-- Every run leaves the array of results so and the arguments as they were. -/
theorem result_run (ρ : Dev nD → PrngReg) : θ_run defs (onTc (τ := τ) (main (F := F))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 6).trans (result_all m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (launch_run m ρ)
end
end Cert.KernelIdeal.Att
-- ==== Proof.Plainref.lean ====
module
public import proofs.«01_k».proof.Proof.Gen.ReferenceIdeal.Run
@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe

variable {F : FTy → Type} [FloatOps F]

/-- How far each query comes after each key. -/
def dist : FVec F S4096x4096 .f32 :=
  (sitofp .f32 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) : (⟨S4096x4096, .f32⟩ : BufTy).Contents (Elt F))

/-- The scores, −∞ where the key comes after the query. -/
def sc (q : FVec F S8x4096x4x2x64 .f32) (k : FVec F S8x4096x4x2x64 .f32) : FVec F S8x4x2x4096x4096 .f32 :=
  (select (broadcastInDim S8x4x2x4096x4096 ![3, 4] bcast_S4096x4096_S8x4x2x4096x4096_3_4 (cmpf .oge (dist (F := F)) (broadcastInDim S4096x4096 ![] bcast_S_S4096x4096 (constant S_ .f32 0x00000000#32)))) (subf (mulf (Host.dotGeneral dot_S8x4096x4x2x64_S8x4096x4x2x64_S8x4x2x4096x4096_4_4_1_1_023_023 none q k) (broadcastInDim S8x4x2x4096x4096 ![] bcast_S_S8x4x2x4096x4096 (constant S_ .f32 0x3E000000#32))) (broadcastInDim S8x4x2x4096x4096 ![0, 1, 2, 3, 4] bcast_S1x4x1x4096x4096_S8x4x2x4096x4096_0_1_2_3_4 (mulf (broadcastInDim S1x4x1x4096x4096 ![0, 1, 2, 3, 4] bcast_S1x4x1x1x1_S1x4x1x4096x4096_0_1_2_3_4 (broadcastInDim S1x4x1x1x1 ![1] bcast_S4_S1x4x1x1x1_1 ((fun i => FloatOps.ofBits .f32 (lit0 (S4.rowMajor i)))))) (broadcastInDim S1x4x1x4096x4096 ![0, 1, 2, 3, 4] bcast_S1x1x1x4096x4096_S1x4x1x4096x4096_0_1_2_3_4 (broadcastInDim S1x1x1x4096x4096 ![3, 4] bcast_S4096x4096_S1x1x1x4096x4096_3_4 (sitofp .f32 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))))))) (broadcastInDim S8x4x2x4096x4096 ![] bcast_S_S8x4x2x4096x4096 (id (constant S_ .f32 0xFF800000#32))))

/-- Each query's largest score. -/
def mx (q : FVec F S8x4096x4x2x64 .f32) (k : FVec F S8x4096x4x2x64 .f32) : FVec F S8x4x2x4096 .f32 :=
  (maximumf (broadcastInDim S8x4x2x4096 ![] bcast_S_S8x4x2x4096 (constant S_ .f32 0xFF800000#32)) (Host.reduce FloatOps.maximumf (sc q k) (constant S_ .f32 0xFF800000#32) reducesTo_S8x4x2x4096x4096_S8x4x2x4096_d4 h_S_))

/-- The weights before they are divided by their sum. -/
def ex (q : FVec F S8x4096x4x2x64 .f32) (k : FVec F S8x4096x4x2x64 .f32) : FVec F S8x4x2x4096x4096 .f32 :=
  (Host.exp (subf (sc q k) (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (mx q k)))))

/-- The weights. -/
def pr (q : FVec F S8x4096x4x2x64 .f32) (k : FVec F S8x4096x4x2x64 .f32) : FVec F S8x4x2x4096x4096 .f32 :=
  (Host.divf (ex q k) (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (Host.reduceAdd (ex q k) (constant S_ .f32 0x00000000#32) reducesTo_S8x4x2x4096x4096_S8x4x2x4096_d4 h_S_))))

/-- How much of the second half's weights is taken away. -/
def lm (lam : FVec F S1x4x64 .f32) : FVec F S_ .f32 :=
  (addf (subf (Host.exp (Host.reduceAdd (mulf (shapeCast _ (extractStridedSlice S1x64 ![0, 0] (shapeCast _ lam shapeCasts_S1x4x64_S4x64) slices_S4x64_S1x64_0_0) shapeCasts_S1x64_S64) (shapeCast _ (extractStridedSlice S1x64 ![1, 0] (shapeCast _ lam shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ lam shapeCasts_S1x4x64_S4x64) slices_S4x64_S1x64_2_0) shapeCasts_S1x64_S64) (shapeCast _ (extractStridedSlice S1x64 ![3, 0] (shapeCast _ lam shapeCasts_S1x4x64_S4x64) slices_S4x64_S1x64_3_0) shapeCasts_S1x64_S64)) (constant S_ .f32 0x00000000#32) reducesTo_S64_S_d0 h_S_))) (constant S_ .f32 0x3E4CCCCD#32))

/-- The difference of the two halves' weights. -/
def pd (q : FVec F S8x4096x4x2x64 .f32) (k : FVec F S8x4096x4x2x64 .f32) (lam : FVec F S1x4x64 .f32) : FVec F S8x4x4096x4096 .f32 :=
  (subf (shapeCast _ (extractStridedSlice S8x4x1x4096x4096 ![0, 0, 0, 0, 0] (pr q k) slices_S8x4x2x4096x4096_S8x4x1x4096x4096_0_0_0_0_0) shapeCasts_S8x4x1x4096x4096_S8x4x4096x4096) (mulf (broadcastInDim S8x4x4096x4096 ![] bcast_S_S8x4x4096x4096 (lm lam)) (shapeCast _ (extractStridedSlice S8x4x1x4096x4096 ![0, 0, 1, 0, 0] (pr q k) slices_S8x4x2x4096x4096_S8x4x1x4096x4096_0_0_1_0_0) shapeCasts_S8x4x1x4096x4096_S8x4x4096x4096)))

/-- The differential attention before its norm. -/
def oo (q : FVec F S8x4096x4x2x64 .f32) (k : FVec F S8x4096x4x2x64 .f32) (v : FVec F S8x4096x4x128 .f32) (lam : FVec F S1x4x64 .f32) : FVec F S8x4096x4x128 .f32 :=
  (transpose S8x4096x4x128 [0, 3, 1, 2] (Host.dotGeneral dot_S8x4096x4x128_S8x4x4096x4096_S8x4x128x4096_1_3_3_2_02_01 none v (pd q k lam)) transposes_S8x4x128x4096_S8x4096x4x128_0_3_1_2)

/-- The reference's result, of its five arguments. -/
def out (q : FVec F S8x4096x4x2x64 .f32) (k : FVec F S8x4096x4x2x64 .f32) (v : FVec F S8x4096x4x128 .f32) (lam : FVec F S1x4x64 .f32) (g : FVec F S1x128 .f32) : FVec F S8x4096x512 .bf16 :=
  truncf .bf16 (shapeCast _ (mulf (mulf (mulf (oo q k v lam) (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf (oo q k v lam) (oo q k v lam)) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 (shapeCast _ g shapeCasts_S1x128_S128)))) (broadcastInDim S8x4096x4x128 ![] bcast_S_S8x4096x4x128 (constant S_ .f32 0x3F4CCCCD#32))) shapeCasts_S8x4096x4x128_S8x4096x512) bitsLt_bf16_f32

theorem res_eq (m : (ℓ : Loc nD τ sig) → Buf (Elt F) ℓ) (c : Dev nD) :
    res_main_v74 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Att
-- ==== Proof.RefRead.lean ====
module
public import proofs.«01_k».proof.Proof.Plainref
public import Idealize.ShloMosaic.Lib.Pointwise
public import Idealize.ShloMosaic.Lib.KernelVsHost
@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe

section
variable (q k : FVec Ideal S8x4096x4x2x64 .f32) (v : FVec Ideal S8x4096x4x128 .f32) (lam : FVec Ideal S1x4x64 .f32) (g : FVec Ideal S1x128 .f32)

theorem ninf_val : Ideal.ofBits FTy.f32 0xFF800000#32 = (⊥ : EReal) := by
  simp [Ideal.ofBits, Ideal.ieee]

theorem red4 : S8x4x2x4096x4096.Reduces [4] S8x4x2x4096 := by decide

/-- How far query `s` comes after key `t`, as a number. -/
def far (s t : Fin 4096) : EReal := FloatOps.sitofp (F := Ideal) FTy.f32 (IntOp.subi (BitVec.ofNat 32 s.val) (BitVec.ofNat 32 t.val))

theorem sc_apply (b : Fin 8) (h : Fin 4) (j : Fin 2) (s t : Fin 4096) :
    sc q k (ix5 b h j s t) = if 0 ≤ far s t then
      (∑ x : Fin 64, q (ix5 b s h j x) * k (ix5 b t h j x)) * Ideal.ofBits FTy.f32 0x3E000000#32
        - Ideal.ofBits FTy.f32 (lit0 (S4.rowMajor (ix1 h))) * far s t
      else ⊥ := by
  rw [← ninf_val]
  pointwise [sc, dist, far, dot_S8x4096x4x2x64_S8x4096x4x2x64_S8x4x2x4096x4096_4_4_1_1_023_023]
  rfl

/-- The largest entry of the last axis, whatever the sizes. -/
theorem maxLast {n0 n1 n2 n3 n4 : Nat} (x : FVec Ideal ⟨5, ![n0, n1, n2, n3, n4]⟩ .f32)
    (h : (⟨5, ![n0, n1, n2, n3, n4]⟩ : Shape).Reduces [4] ⟨4, ![n0, n1, n2, n3]⟩) (acc : BitVec 32) (hφ : FKind.Formats FTy.f32) (hacc)
    (a : Fin n0) (b : Fin n1) (c : Fin n2) (d : Fin n3) :
    multiReduction .maximumf [4] ⟨4, ![n0, n1, n2, n3]⟩ x acc h hφ hacc (ix4 a b c d)
      = Finset.univ.fold max (Ideal.ofBits FTy.f32 acc) fun t : Fin n4 => x (ix5 a b c d t) := by
  pointwise

theorem maxBot (y : FVec Ideal S8x4x2x4096 .f32) (i : S8x4x2x4096.Idx) (V : EReal) (hy : y i = V) :
    maximumf (broadcastInDim S8x4x2x4096 ![] bcast_S_S8x4x2x4096 (constant S_ .f32 0xFF800000#32)) y i = max ⊥ V := by
  rw [← hy, ← ninf_val]
  pointwise

theorem mx_apply (b : Fin 8) (h : Fin 4) (j : Fin 2) (s : Fin 4096) :
    mx q k (ix4 b h j s) = max ⊥ (Finset.univ.fold max ⊥ fun t : Fin 4096 => sc q k (ix5 b h j s t)) := by
  unfold mx
  generalize sc q k = x
  have e := hostReduce_maximumf_eq_multiReduction x 0xFF800000#32 reducesTo_S8x4x2x4096x4096_S8x4x2x4096_d4 h_S_ red4 (.inl rfl) rfl
  have e' := maxLast x red4 0xFF800000#32 (.inl rfl) rfl b h j s
  rw [ninf_val] at e'
  exact maxBot _ _ _ ((congrFun e _).trans e')

theorem ex_apply (b : Fin 8) (h : Fin 4) (j : Fin 2) (s t : Fin 4096) :
    ex q k (ix5 b h j s t) = Ideal.exp (sc q k (ix5 b h j s t) - mx q k (ix4 b h j s)) := by
  unfold ex
  pointwise

theorem pr_apply (b : Fin 8) (h : Fin 4) (j : Fin 2) (s t : Fin 4096) :
    pr q k (ix5 b h j s t) = Ideal.div (ex q k (ix5 b h j s t)) (∑ x : Fin 4096, ex q k (ix5 b h j s x)) := by
  unfold pr
  pointwise

theorem lm_apply : lm lam ix0 = Ideal.exp (∑ x : Fin 64, lam (ix3 0 0 x) * lam (ix3 0 1 x)) - Ideal.exp (∑ x : Fin 64, lam (ix3 0 2 x) * lam (ix3 0 3 x)) +
      Ideal.ofBits FTy.f32 0x3E4CCCCD#32 := by
  unfold lm
  pointwise

theorem cast_apply (x : FVec Ideal S8x4x1x4096x4096 .f32) (hc) (b : Fin 8) (h : Fin 4) (s t : Fin 4096) :
    shapeCast S8x4x4096x4096 x hc (ix4 b h s t) = x (ix5 b h 0 s t) := by
  rw [Pointwise.shapeCast_apply]
  congr 1
  refine Shape.reshapeEquiv_eq_of_vals _ _ _ _ _
    (rowMajor_val5 _ 67108864 16777216 16777216 4096 rfl rfl rfl rfl)
    (rowMajor_val4 _ 67108864 16777216 4096 rfl rfl rfl) ?_
  simp [ix4, ix5]

theorem pd_apply (b : Fin 8) (h : Fin 4) (s t : Fin 4096) :
    pd q k lam (ix4 b h s t) = pr q k (ix5 b h 0 s t) - lm lam ix0 * pr q k (ix5 b h 1 s t) := by
  unfold pd
  generalize pr q k = x
  generalize lm lam = l
  rw [subf, mulf, cast_apply, cast_apply]
  pointwise

theorem oo_apply (b : Fin 8) (h : Fin 4) (s : Fin 4096) (e : Fin 128) :
    oo q k v lam (ix4 b s h e) = ∑ x : Fin 4096, v (ix4 b x h e) * pd q k lam (ix4 b h s x) := by
  unfold oo
  pointwise [dot_S8x4096x4x128_S8x4x4096x4096_S8x4x128x4096_1_3_3_2_02_01]

theorem out_apply (b : Fin 8) (h : Fin 4) (s : Fin 4096) (e : Fin 128) (l : Fin 512) (hl : l.val = 128 * h.val + e.val) :
    out q k v lam g (ix3 b s l) = oo q k v lam (ix4 b s h e)
      * Ideal.rsqrt (Ideal.div (∑ x : Fin 128, oo q k v lam (ix4 b s h x) * oo q k v lam (ix4 b s h x)) (Ideal.ofBits FTy.f32 0x43000000#32)
        + Ideal.ofBits FTy.f32 0x358637BD#32) * g (ix2 0 e) * Ideal.ofBits FTy.f32 0x3F4CCCCD#32 := by
  unfold out
  generalize oo q k v lam = o
  pointwise
  have h1 : (⟨l.val / 128, by omega⟩ : Fin 4) = h := Fin.ext (by show l.val / 128 = h.val; omega)
  have h2 : (⟨l.val % 128, by omega⟩ : Fin 128) = e := Fin.ext (by show l.val % 128 = e.val; omega)
  rw [h1, h2]
end
end Cert.ReferenceIdeal.Att
-- ==== Proof.RefMath.lean ====
module
public import proofs.«01_k».proof.Proof.RefRead
public import proofs.«01_k».proof.Proof.Online
public import Idealize.ShloMosaic.Lib.Affine
@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe

open Cert.Online

/-- A word whose exponent is not all ones stands for a real number. -/
theorem real_ieee (e m : Nat) {w : Nat} (b : BitVec w) (h : (b.extractLsb' m e).toNat ≠ 2 ^ e - 1) : ∃ x : ℝ, Ideal.ieee e m b = (x : EReal) := by
  unfold Ideal.ieee
  dsimp only
  rw [if_neg h]
  split
  · exact ⟨_, rfl⟩
  · exact ⟨_, rfl⟩

/-- If its sign is plus, the number isn't negative. -/
theorem nonneg_ieee (e m : Nat) {w : Nat} (b : BitVec w) (h : (b.extractLsb' m e).toNat ≠ 2 ^ e - 1) (hs : (b.extractLsb' (e + m) 1 == 1#1) = false) :
    ∃ x : ℝ, 0 ≤ x ∧ Ideal.ieee e m b = (x : EReal) := by
  unfold Ideal.ieee
  dsimp only
  rw [if_neg h, hs]
  split
  · exact ⟨_, by simp only [Bool.false_eq_true, if_false]; positivity, rfl⟩
  · exact ⟨_, by simp only [Bool.false_eq_true, if_false]; positivity, rfl⟩

theorem eighth : ∃ x : ℝ, 0 ≤ x ∧ Ideal.ofBits FTy.f32 0x3E000000#32 = (x : EReal) := nonneg_ieee 8 23 0x3E000000#32 (by decide) (by decide)
theorem fifth : ∃ x : ℝ, Ideal.ofBits FTy.f32 0x3E4CCCCD#32 = (x : EReal) := real_ieee 8 23 0x3E4CCCCD#32 (by decide)
theorem slopes : ∃ f : Fin 4 → ℝ, ∀ h : Fin 4, Ideal.ofBits FTy.f32 (lit0 (S4.rowMajor (ix1 h))) = (f h : EReal) := by
  have : ∀ h : Fin 4, ∃ x : ℝ, Ideal.ofBits FTy.f32 (lit0 (S4.rowMajor (ix1 h))) = (x : EReal) := fun h =>
    real_ieee 8 23 _ (by revert h; decide +kernel)
  exact ⟨fun h => (this h).choose, fun h => (this h).choose_spec⟩

theorem far_val (s t : Fin 4096) : far s t = (((s.val : ℝ) - (t.val : ℝ) : ℝ) : EReal) := by
  have e : (IntOp.subi (BitVec.ofNat 32 s.val) (BitVec.ofNat 32 t.val)).toInt = (s.val : Int) - (t.val : Int) := by
    have h := Affine.subi (Affine.ofNat s.val (e := (s.val : Int)) ⟨rfl, by omega⟩) (Affine.ofNat t.val (e := (t.val : Int)) ⟨rfl, by omega⟩)
      (e := (s.val : Int) - (t.val : Int)) ⟨rfl, by omega, by omega⟩
    unfold Affine.IsInt at h
    exact h
  show (((IntOp.subi (BitVec.ofNat 32 s.val) (BitVec.ofNat 32 t.val)).toInt : ℝ) : EReal) = _
  rw [e]
  push_cast
  rfl

section
variable (q k : FVec Ideal S8x4096x4x2x64 .f32) (v : FVec Ideal S8x4096x4x128 .f32) (lam : FVec Ideal S1x4x64 .f32)

/-- A query's scores, key by key. -/
def scn (b : Fin 8) (h : Fin 4) (j : Fin 2) (s : Fin 4096) (t : ℕ) : EReal := if ht : t < 4096 then sc q k (ix5 b h j s ⟨t, ht⟩) else ⊥

theorem scn_fin (b : Fin 8) (h : Fin 4) (j : Fin 2) (s t : Fin 4096) : scn q k b h j s t.val = sc q k (ix5 b h j s t) := dif_pos t.isLt

theorem mx_top (b : Fin 8) (h : Fin 4) (j : Fin 2) (s : Fin 4096) : mx q k (ix4 b h j s) = top (scn q k b h j s) 4096 := by
  have e := top_add (scn q k b h j s) 0 4096
  rw [top_zero, Nat.zero_add] at e
  rw [mx_apply, e, show (fun t : Fin 4096 => scn q k b h j s (0 + t.val)) = fun t => sc q k (ix5 b h j s t) from
    funext fun t => by rw [Nat.zero_add, scn_fin]]

/-- A key's weight for a query, before it is divided by the weights' sum. -/
def wr (b : Fin 8) (h : Fin 4) (j : Fin 2) (s t : Fin 4096) : ℝ := ew (scn q k b h j s t.val) (top (scn q k b h j s) 4096)

theorem wr_nonneg (b : Fin 8) (h : Fin 4) (j : Fin 2) (s t : Fin 4096) : 0 ≤ wr q k b h j s t := ew_nonneg (le_top _ t.isLt)

theorem ex_val (b : Fin 8) (h : Fin 4) (j : Fin 2) (s t : Fin 4096) : ex q k (ix5 b h j s t) = ((wr q k b h j s t : ℝ) : EReal) := by
  rw [ex_apply, mx_top, ← scn_fin, ew_coe (le_top _ t.isLt), wr]

theorem pr_val (b : Fin 8) (h : Fin 4) (j : Fin 2) (s t : Fin 4096) :
    pr q k (ix5 b h j s t) = Ideal.div ((wr q k b h j s t : ℝ) : EReal) ((∑ x : Fin 4096, wr q k b h j s x : ℝ) : EReal) := by
  rw [pr_apply, Finset.sum_congr rfl fun x _ => ex_val q k b h j s x, ex_val, sum_coe]

theorem oo_val (v' : S8x4096x4x128.Idx → ℝ) (hv : ∀ i, v i = ((v' i : ℝ) : EReal)) (l : ℝ) (hl : lm lam ix0 = (l : EReal))
    (b : Fin 8) (h : Fin 4) (s : Fin 4096) (e : Fin 128) :
    oo q k v lam (ix4 b s h e) = ∑ x : Fin 4096, ((v' (ix4 b x h e) : ℝ) : EReal)
      * (Ideal.div ((wr q k b h 0 s x : ℝ) : EReal) ((∑ y : Fin 4096, wr q k b h 0 s y : ℝ) : EReal)
        - (l : EReal) * Ideal.div ((wr q k b h 1 s x : ℝ) : EReal) ((∑ y : Fin 4096, wr q k b h 1 s y : ℝ) : EReal)) := by
  rw [oo_apply]
  refine Finset.sum_congr rfl fun x _ => ?_
  rw [pd_apply, pr_val, pr_val, hl, hv]

theorem lm_real (hlam : ∀ i, ∃ x : ℝ, lam i = (x : EReal)) : ∃ l : ℝ, lm lam ix0 = (l : EReal) := by
  choose f hf using hlam
  obtain ⟨c, hc⟩ := fifth
  refine ⟨Real.exp (∑ x : Fin 64, f (ix3 0 0 x) * f (ix3 0 1 x)) - Real.exp (∑ x : Fin 64, f (ix3 0 2 x) * f (ix3 0 3 x)) + c, ?_⟩
  have e : ∀ a b : Fin 4, (∑ x : Fin 64, lam (ix3 0 a x) * lam (ix3 0 b x)) = ((∑ x : Fin 64, f (ix3 0 a x) * f (ix3 0 b x) : ℝ) : EReal) := fun a b => by
    rw [← sum_coe]
    exact Finset.sum_congr rfl fun x _ => by rw [hf, hf, EReal.coe_mul]
  rw [lm_apply, hc, e, e, Ideal.exp_coe, Ideal.exp_coe, ← EReal.coe_sub, ← EReal.coe_add]
end
end Cert.ReferenceIdeal.Att
-- ==== Proof.Finite.lean ====
module
public import proofs.«01_k».proof.Pre_finite
public import Idealize.ShloMosaic.Lib.Pointwise
@[expose] public section

set_option maxRecDepth 16384

noncomputable section

namespace Cert.Pre_finite

open Idealize.ShloMosaic Idealize.ShloMosaic.TcCoe

/-- The precondition's shapes fit. -/
theorem facts : Facts := ⟨by decide, by decide, by decide, by decide, by decide⟩

variable [Facts] (q k : FVec Ideal S8x4096x4x2x64 .f32) (v : FVec Ideal S8x4096x4x128 .f32) (lam : FVec Ideal S1x4x64 .f32) (g : FVec Ideal S1x128 .f32)

theorem inf_val : Ideal.ofBits FTy.f32 0x7F800000#32 = (⊤ : EReal) := by
  simp [Ideal.ofBits, Ideal.ieee]

/-- An ideal value below +∞ in magnitude is a real number. -/
theorem real_of (x : Ideal FTy.f32) (h : BitVec.ofBool (decide (FloatOps.absf x < Ideal.ofBits FTy.f32 0x7F800000#32)) = 1#1) : ∃ r : ℝ, x = (r : EReal) := by
  rw [inf_val] at h
  have h2 : (FloatOps.absf x : EReal) < ⊤ := by
    by_contra hn
    rw [decide_eq_false hn] at h
    exact absurd h (by decide)
  change max x (-x) < (⊤ : EReal) at h2
  induction x using EReal.rec with
  | bot => simp at h2
  | coe r => exact ⟨r, rfl⟩
  | top => simp at h2

theorem andi_left {a b : BitVec 1} (h : IntOp.andi a b = 1#1) : a = 1#1 := by revert a b; decide
theorem andi_right {a b : BitVec 1} (h : IntOp.andi a b = 1#1) : b = 1#1 := by revert a b; decide

variable (hp : fn q k v lam g = fun _ => 1#1)

include hp in
theorem fn_apply (b : Fin 8) (s : Fin 4096) (h : Fin 4) (j : Fin 2) (x : Fin 64) : IntOp.andi
      (BitVec.ofBool (decide (FloatOps.absf (v (ix4 b s h ⟨j.val * 64 + x.val, by omega⟩)) < Ideal.ofBits FTy.f32 0x7F800000#32)))
      (BitVec.ofBool (decide (FloatOps.absf (lam (ix3 0 h x)) < Ideal.ofBits FTy.f32 0x7F800000#32))) = 1#1 := by
  rw [← congrFun hp (ix5 b s h j x)]
  symm
  unfold fn
  dsimp only
  pointwise

include hp in
theorem v_real (i : S8x4096x4x128.Idx) : ∃ r : ℝ, v i = (r : EReal) := by
  have h3 : (i 3).val < 128 := (i 3).isLt
  have e : i = ix4 (i 0) (i 1) (i 2) ⟨(⟨(i 3).val / 64, by omega⟩ : Fin 2).val * 64 + (⟨(i 3).val % 64, by omega⟩ : Fin 64).val, by dsimp only; omega⟩ := by
    funext a
    match a with
    | ⟨0, _⟩ => rfl
    | ⟨1, _⟩ => rfl
    | ⟨2, _⟩ => rfl
    | ⟨3, _⟩ => exact Fin.ext (show (i 3).val = (i 3).val / 64 * 64 + (i 3).val % 64 by omega)
  rw [e]
  exact real_of _ (andi_left (fn_apply q k v lam g hp _ _ _ _ _))
include hp in
theorem lam_real (i : S1x4x64.Idx) : ∃ r : ℝ, lam i = (r : EReal) := by
  have h0 : (i 0).val < 1 := (i 0).isLt
  have e : i = ix3 0 (i 1) (i 2) := by
    funext a
    match a with
    | ⟨0, _⟩ => exact Fin.ext (show (i 0).val = 0 by omega)
    | ⟨1, _⟩ => rfl
    | ⟨2, _⟩ => rfl
  rw [e]
  exact real_of _ (andi_right (fn_apply q k v lam g hp 0 0 _ 0 _))
end Cert.Pre_finite
-- ==== Proof.Same.lean ====
module
public import proofs.«01_k».proof.Proof.Block
public import proofs.«01_k».proof.Proof.HostRead
public import proofs.«01_k».proof.Proof.Arr
public import proofs.«01_k».proof.Proof.RefMath
public import proofs.«01_k».proof.Proof.Finite
@[expose] public section

set_option maxRecDepth 16384

noncomputable section

namespace Cert.Same

open Idealize.ShloMosaic Idealize.ShloMosaic.TcCoe
open Cert.KernelIdeal.Att Cert.ReferenceIdeal.Att Cert.Online

abbrev QK : Shape := Cert.KernelIdeal.S8x4096x4x2x64
abbrev VV : Shape := Cert.KernelIdeal.S8x4096x4x128

section
variable (q k : FVec Ideal QK .f32) (v' : VV.Idx → ℝ) (c8 : ℝ) (sl : Fin 4 → ℝ) (b : Fin 8) (h : Fin 4) (n : Fin 8)

/-- A block's queries, scaled. -/
def Qr (r : Fin 512) (d : Fin 128) : EReal :=
  q (ix5 b (⟨512 * n.val + r.val, by omega⟩ : Fin 4096) h (⟨d.val / 64, by omega⟩ : Fin 2) (⟨d.val % 64, by omega⟩ : Fin 64)) * (c8 : EReal)
/-- A head's keys. -/
def Kr (t : ℕ) (d : Fin 128) : EReal :=
  if ht : t < 4096 then k (ix5 b (⟨t, ht⟩ : Fin 4096) h (⟨d.val / 64, by omega⟩ : Fin 2) (⟨d.val % 64, by omega⟩ : Fin 64)) else 0
/-- A head's values and the ones after them. -/
def Vr (t : ℕ) (e : Fin 256) : ℝ :=
  if ht : t < 4096 then (if he : e.val < 128 then v' (ix4 b (⟨t, ht⟩ : Fin 4096) h (⟨e.val, he⟩ : Fin 128)) else 1) else 1

theorem dot_a (h8 : 0 ≤ c8) (r : Fin 512) (t : Fin 4096) : dotR (halfA (Qr q c8 b h n)) (Kr k b h) r t.val
    = (∑ x : Fin 64, q (ix5 b (⟨512 * n.val + r.val, by omega⟩ : Fin 4096) h (0 : Fin 2) x) * k (ix5 b t h (0 : Fin 2) x)) * (c8 : EReal) := by
  rw [sum_mul_nonneg _ _ h8]
  unfold dotR
  refine (Fin.sum_univ_add (a := 64) (b := 64) (fun d : Fin 128 => halfA (Qr q c8 b h n) r d * Kr k b h t.val d)).trans ?_
  have z : ∀ x : Fin 64, halfA (Qr q c8 b h n) r (Fin.natAdd 64 x) * Kr k b h t.val (Fin.natAdd 64 x) = 0 := fun x => by
    rw [halfA, if_neg (by show ¬ 64 + x.val < 64; omega), zero_mul]
  rw [Finset.sum_congr rfl fun x _ => z x, Finset.sum_const_zero, add_zero]
  refine Finset.sum_congr rfl fun x _ => ?_
  rw [halfA, if_pos (by show x.val < 64; omega), Qr, Kr, dif_pos t.isLt]
  have e1 : (⟨(Fin.castAdd 64 x).val / 64, by omega⟩ : Fin 2) = 0 := Fin.ext (by show x.val / 64 = 0; omega)
  have e2 : (⟨(Fin.castAdd 64 x).val % 64, by omega⟩ : Fin 64) = x := Fin.ext (by show x.val % 64 = x.val; omega)
  rw [e1, e2]
  exact mul_right_comm _ _ _

theorem dot_b (h8 : 0 ≤ c8) (r : Fin 512) (t : Fin 4096) : dotR (halfB (Qr q c8 b h n)) (Kr k b h) r t.val
    = (∑ x : Fin 64, q (ix5 b (⟨512 * n.val + r.val, by omega⟩ : Fin 4096) h (1 : Fin 2) x) * k (ix5 b t h (1 : Fin 2) x)) * (c8 : EReal) := by
  rw [sum_mul_nonneg _ _ h8]
  unfold dotR
  refine (Fin.sum_univ_add (a := 64) (b := 64) (fun d : Fin 128 => halfB (Qr q c8 b h n) r d * Kr k b h t.val d)).trans ?_
  have z : ∀ x : Fin 64, halfB (Qr q c8 b h n) r (Fin.castAdd 64 x) * Kr k b h t.val (Fin.castAdd 64 x) = 0 := fun x => by
    rw [halfB, if_neg (by show ¬ 64 ≤ x.val; omega), zero_mul]
  rw [Finset.sum_congr rfl fun x _ => z x, Finset.sum_const_zero, zero_add]
  refine Finset.sum_congr rfl fun x _ => ?_
  rw [halfB, if_pos (by show 64 ≤ 64 + x.val; omega), Qr, Kr, dif_pos t.isLt]
  have e1 : (⟨(Fin.natAdd 64 x).val / 64, by omega⟩ : Fin 2) = 1 := Fin.ext (by show (64 + x.val) / 64 = 1; omega)
  have e2 : (⟨(Fin.natAdd 64 x).val % 64, by omega⟩ : Fin 64) = x := Fin.ext (by show (64 + x.val) % 64 = x.val; omega)
  rw [e1, e2]
  exact mul_right_comm _ _ _

variable (hc : Ideal.ofBits FTy.f32 0x3E000000#32 = (c8 : EReal))
  (hs : ∀ h : Fin 4, Ideal.ofBits FTy.f32 (Cert.ReferenceIdeal.lit0 (Cert.ReferenceIdeal.S4.rowMajor (ix1 h))) = (sl h : EReal))

include hc hs in
/-- The kernel's scores are the reference's up to one number of the query. -/
theorem scores (Q : Fin 512 → Fin 128 → EReal) (j : Fin 2) (r : Fin 512)
    (hd : ∀ t : Fin 4096, dotR Q (Kr k b h) r t.val
      = (∑ x : Fin 64, q (ix5 b (⟨512 * n.val + r.val, by omega⟩ : Fin 4096) h j x) * k (ix5 b t h j x)) * (c8 : EReal)) (t : ℕ) (ht : t < 4096) :
    scr n.val Q (Kr k b h) (sl h) r t = scn q k b h j ⟨512 * n.val + r.val, by omega⟩ t + ((sl h * r.val : ℝ) : EReal) := by
  rw [scr, scn, dif_pos ht, sc_apply, far_val, hc, hs, hd ⟨t, ht⟩]
  by_cases hh : t ≤ 512 * n.val + r.val
  · have h0 : (0 : EReal) ≤ ((((⟨512 * n.val + r.val, by omega⟩ : Fin 4096).val : ℝ) - ((⟨t, ht⟩ : Fin 4096).val : ℝ) : ℝ) : EReal) := by
      rw [EReal.coe_nonneg, sub_nonneg]; exact_mod_cast hh
    generalize (∑ x : Fin 64, q (ix5 b (⟨512 * n.val + r.val, by omega⟩ : Fin 4096) h j x) * k (ix5 b (⟨t, ht⟩ : Fin 4096) h j x)) * (c8 : EReal) = A
    rw [if_pos hh, if_pos h0, ← EReal.coe_mul, sub_eq_add_neg A, ← EReal.coe_neg, add_assoc, ← EReal.coe_add]
    congr 2
    push_cast
    ring
  · have h0 : ¬ (0 : EReal) ≤ ((((⟨512 * n.val + r.val, by omega⟩ : Fin 4096).val : ℝ) - ((⟨t, ht⟩ : Fin 4096).val : ℝ) : ℝ) : EReal) := by
      rw [EReal.coe_nonneg, sub_nonneg]; exact_mod_cast hh
    rw [if_neg hh, if_neg h0, EReal.bot_add]

include hc hs in
theorem attN_eq (Q : Fin 512 → Fin 128 → EReal) (j : Fin 2) (r : Fin 512)
    (hd : ∀ t : Fin 4096, dotR Q (Kr k b h) r t.val
      = (∑ x : Fin 64, q (ix5 b (⟨512 * n.val + r.val, by omega⟩ : Fin 4096) h j x) * k (ix5 b t h j x)) * (c8 : EReal)) (x : Fin 128) :
    attN n.val Q (Kr k b h) (Vr v' b h) (sl h) r ⟨x.val, by omega⟩
      = ∑ t : Fin 4096, wr q k b h j ⟨512 * n.val + r.val, by omega⟩ t * v' (ix4 b t h x) := by
  rw [attN, num_shift _ _ _ _ (scores q k c8 sl b h n hc hs Q j r hd), num, Finset.sum_range]
  refine Finset.sum_congr rfl fun t _ => ?_
  rw [Vr, dif_pos t.isLt, dif_pos x.isLt, wr]

include hc hs in
theorem attD_eq (Q : Fin 512 → Fin 128 → EReal) (j : Fin 2) (r : Fin 512)
    (hd : ∀ t : Fin 4096, dotR Q (Kr k b h) r t.val
      = (∑ x : Fin 64, q (ix5 b (⟨512 * n.val + r.val, by omega⟩ : Fin 4096) h j x) * k (ix5 b t h j x)) * (c8 : EReal)) :
    attD n.val Q (Kr k b h) (sl h) r = ∑ t : Fin 4096, wr q k b h j ⟨512 * n.val + r.val, by omega⟩ t := by
  rw [attD, num_shift _ _ _ _ (scores q k c8 sl b h n hc hs Q j r hd), num, Finset.sum_range]
  exact Finset.sum_congr rfl fun t _ => mul_one _
end

theorem n128 : ∃ x : ℝ, 0 < x ∧ Ideal.ofBits FTy.f32 0x43000000#32 = (x : EReal) := by
  refine ⟨_, ?_, by simp [Ideal.ofBits, Ideal.ieee]; rfl⟩
  norm_num
theorem eps_real : ∃ x : ℝ, Ideal.ofBits FTy.f32 0x358637BD#32 = (x : EReal) := real_ieee 8 23 0x358637BD#32 (by decide)

theorem sq_nonneg' (x : EReal) : 0 ≤ x * x := by
  induction x using EReal.rec with
  | bot => simp
  | coe r => rw [← EReal.coe_mul]; exact EReal.coe_nonneg.2 (mul_self_nonneg r)
  | top => simp

/-- The norm sends an entry of 0 to 0, and an infinite one too. -/
theorem norm_zi (o : Fin 128 → EReal) (g : EReal) (e : Fin 128) (h : Zi (o e)) : normRow o g e = 0 := by
  rw [normRow]
  rcases h with h | h
  · rw [h, zero_mul, zero_mul, zero_mul]
  · have hq : o e * o e = ⊤ := by rcases h with h | h <;> rw [h] <;> simp
    have hsum : (∑ x : Fin 128, o x * o x) = ⊤ :=
      top_le_iff.1 (hq ▸ Finset.single_le_sum (f := fun x : Fin 128 => o x * o x) (fun x _ => sq_nonneg' (o x)) (Finset.mem_univ e))
    obtain ⟨x, hx, h1⟩ := n128
    obtain ⟨y, h2⟩ := eps_real
    have hd : Ideal.div ⊤ (x : EReal) = ⊤ := by
      rw [Ideal.div, if_neg (by exact_mod_cast hx.ne'), ← EReal.coe_inv, EReal.top_mul_coe_of_pos (inv_pos.2 hx)]
    have hr : Ideal.rsqrt ⊤ = 0 := rfl
    rw [hsum, h1, h2, hd, EReal.top_add_coe, hr, mul_zero, zero_mul, zero_mul]

theorem lits : ∀ h : Fin 4, Cert.KernelIdeal.lit0 (Cert.KernelIdeal.S4.rowMajor (ix1 h)) = Cert.ReferenceIdeal.lit0 (Cert.ReferenceIdeal.S4.rowMajor (ix1 h)) := by
  decide +kernel

section
open Cert.KernelIdeal Cert.KernelIdeal.Gen
variable (m : (ℓ : Loc nD τ sig) → Buf (Elt Ideal) ℓ) (c : Dev nD)

/-- Each entry of the kernel's result is the reference's. -/
theorem entry (hP : Cert.Pre_finite.Facts) (hp : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (b : Fin 8) (h : Fin 4) (n : Fin 8) (r : Fin 512) (e : Fin 128) :
    outAt m c (pt b h n) (ix3 0 r e) = out (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (ix3 b ⟨512 * n.val + r.val, by omega⟩ ⟨128 * h.val + e.val, by omega⟩) := by
  have HV := Cert.Pre_finite.v_real _ _ _ _ _ hp
  have HL := Cert.Pre_finite.lam_real _ _ _ _ _ hp
  have VQ := V_q m c
  have VK := V_k m c
  have VVv := V_v m c
  have VL := V_l m c
  have VG := V_g m c
  clear hp
  choose v' hv using HV
  obtain ⟨c8, h8, hc⟩ := eighth
  obtain ⟨sl, hs⟩ := slopes
  have hb := fun r e => block_value (Q := Qr (m ((c.tc : Thread nD τ).loc main_arg0)) c8 b h n) (grid0.coords (pt b h n)) (n := n.val) (pt_facts b h n).2.2
    (K := Kr (m ((c.tc : Thread nD τ).loc main_arg1)) b h) (V := Vr v' b h) (sl := sl h)
    (iblk m c 0 (pt b h n)) (iblk m c 1 (pt b h n)) (iblk m c 2 (pt b h n)) (iblk m c 3 (pt b h n)) (iblk m c 4 (pt b h n)) (iblk m c 5 (pt b h n))
    (by
      refine (blk_s m c b h n _).trans ?_
      rw [V_s]
      have eh : (grid0.coords (pt b h n) 1 : Fin 4) = h := Fin.ext (pt_facts b h n).2.1
      show Ideal.ofBits FTy.f32 (lit0 (S4.rowMajor (ix1 (grid0.coords (pt b h n) 1 : Fin 4)))) = _
      rw [eh, lits, hs h])
    (fun r d => by
      refine (blk_q m c b h n r d).trans ?_
      rw [VQ, hostQ_apply _ b _ h ⟨d.val / 64, by omega⟩ ⟨d.val % 64, by omega⟩ _ (by dsimp only; omega), hc, Qr])
    (fun t ht d => by
      refine (blk_k m c b h n ⟨t, ht⟩ d).trans ?_
      rw [VK, hostK_apply _ b _ h ⟨d.val / 64, by omega⟩ ⟨d.val % 64, by omega⟩ _ (by dsimp only; omega)]
      rw [Kr, dif_pos ht])
    (fun t ht d => by
      refine (blk_v m c b h n ⟨t, ht⟩ d).trans ?_
      rw [VVv, Vr, dif_pos ht]
      by_cases hd : d.val < 128
      · rw [hostV_lo _ b _ h ⟨d.val, hd⟩ _ rfl, dif_pos hd, ← hv]
      · rw [hostV_hi _ b _ h ⟨d.val - 128, by omega⟩ _ (by dsimp only; omega), dif_neg hd, EReal.coe_one])
    (fun t ht d hd => by rw [Vr, dif_pos ht, dif_neg (by omega)]) r e
  obtain ⟨l, hl⟩ := lm_real _ HL
  rw [out_apply _ _ _ _ _ b h _ e _ rfl]
  refine (hb r e).trans ?_
  have eg : (iblk m c 5 (pt b h n) : Vec Ideal S1x128 .f32) (ix2 0 e) = m ((c.tc : Thread nD τ).loc main_arg4) (ix2 0 e) := by
    refine (blk_g m c b h n e).trans ?_
    rw [VG, hostG_apply]
  have el : lamOf (fun p d => (iblk m c 4 (pt b h n) : Vec Ideal S4x64 .f32) (ix2 p d)) = (l : EReal) := by
    rw [← hl, lm_apply]
    have : (fun (p : Fin 4) (d : Fin 64) => (iblk m c 4 (pt b h n) : Vec Ideal S4x64 .f32) (ix2 p d)) = fun p d => m ((c.tc : Thread nD τ).loc main_arg3) (ix3 0 p d) := by
      funext p d
      refine (blk_l m c b h n p d).trans ?_
      rw [VL, hostL_apply]
    rw [this]
    rfl
  rw [eg, el]
  rw [attD_eq _ _ c8 sl b h n hc hs _ 0 r (dot_a _ _ c8 b h n h8 r), attD_eq _ _ c8 sl b h n hc hs _ 1 r (dot_b _ _ c8 b h n h8 r)]
  simp only [attN_eq _ _ v' c8 sl b h n hc hs _ 0 r (dot_a _ _ c8 b h n h8 r), attN_eq _ _ v' c8 sl b h n hc hs _ 1 r (dot_b _ _ c8 b h n h8 r)]
  have ho := oo_val (m ((c.tc : Thread nD τ).loc main_arg0)) (m ((c.tc : Thread nD τ).loc main_arg1)) (m ((c.tc : Thread nD τ).loc main_arg2))
    (m ((c.tc : Thread nD τ).loc main_arg3)) v' hv l hl b h ⟨512 * n.val + r.val, by omega⟩
  refine Eq.trans ?_ (show normRow (fun x => oo (F := Ideal) (m ((c.tc : Thread nD τ).loc main_arg0)) (m ((c.tc : Thread nD τ).loc main_arg1))
      (m ((c.tc : Thread nD τ).loc main_arg2)) (m ((c.tc : Thread nD τ).loc main_arg3)) (ix4 b ⟨512 * n.val + r.val, by omega⟩ h x))
      (m ((c.tc : Thread nD τ).loc main_arg4) (ix2 0 e)) e = _ from rfl)
  rcases means (fun t => wr _ _ b h 0 ⟨512 * n.val + r.val, by omega⟩ t) (fun t => wr _ _ b h 1 ⟨512 * n.val + r.val, by omega⟩ t)
    (fun t => wr_nonneg (m ((c.tc : Thread nD τ).loc main_arg0)) (m ((c.tc : Thread nD τ).loc main_arg1)) b h 0 _ t) (fun t => wr_nonneg (m ((c.tc : Thread nD τ).loc main_arg0)) (m ((c.tc : Thread nD τ).loc main_arg1)) b h 1 _ t) l
    (fun (t : Fin 4096) (x : Fin 128) => v' (ix4 b t h x)) with H | H
  · exact congrArg (fun o => normRow o (m ((c.tc : Thread nD τ).loc main_arg4) (ix2 0 e)) e) (funext fun x => (H x).trans (ho x).symm)
  · exact (norm_zi _ _ e (H e).1).trans (norm_zi _ _ e (by rw [ho]; exact (H e).2)).symm

/-- So the kernel's result is the reference's. -/
theorem whole (hP : Cert.Pre_finite.Facts) (hp : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    out (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = result m c := by
  funext j
  have h1 : (j 1).val < 4096 := (j 1).isLt
  have h2 : (j 2).val < 512 := (j 2).isLt
  refine Eq.trans ?_ (entry m c hP hp (j 0) ⟨(j 2).val / 128, by omega⟩ ⟨(j 1).val / 512, by omega⟩ ⟨(j 1).val % 512, by omega⟩ ⟨(j 2).val % 128, by omega⟩).symm
  refine congrArg _ ?_
  funext a
  match a with
  | ⟨0, _⟩ => rfl
  | ⟨1, _⟩ => exact Fin.ext (show (j 1).val = 512 * ((j 1).val / 512) + (j 1).val % 512 by omega)
  | ⟨2, _⟩ => exact Fin.ext (show (j 2).val = 128 * ((j 2).val / 128) + (j 2).val % 128 by omega)
end
end Cert.Same
-- ==== Proof.Moe.Body.lean ====
module
public import proofs.«01_k».proof.Defs
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.WordCmp
public import Idealize.ShloMosaic.Lib.VecWindow
@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the first table at the offset `o`. -/
def eAt (g1 : Vec F S288 .i32) (o : Fin 1 → Nat) (h : ∀ a, o a + S1.size a ≤ S288.size a) : BitVec 32 :=
  View.ld g1 (Rect.unit (s := S288) o S1.size h) (Shape.Idx.first (numel1_S1.symm ▸ Nat.one_pos))

/-- The only word of the second table. -/
def nUsed (g2 : Vec F S1 .i32) : BitVec 32 :=
  View.ld g2 (Rect.unit (s := S1) ![0] S1.size inb_S1_S1_0) (Shape.Idx.first (numel1_S1.symm ▸ Nat.one_pos))

/-- Whether a block reads its weights anew: it is in use, and it is the first one or its expert differs from the one before. -/
def fresh (i : grid0.Coords) (v0 v4 v8 : BitVec 32) : BitVec 1 :=
  Scalar.cmpi .ne (Scalar.extui (Scalar.andi (Scalar.cmpi .slt (BitVec.ofNat 32 (i 0).val) v0)
    (Scalar.ori (Scalar.cmpi .eq (BitVec.ofNat 32 (i 0).val) 0#32) (Scalar.cmpi .ne v4 v8)))) (0#32 : BitVec 32)

theorem ld_all {s : Shape} {e : EltTy} (x : s.Idx → Elt F e) (o : Fin s.rank → Nat) (ho : o = fun _ => 0) (h : ∀ a, o a + s.size a ≤ s.size a) : View.ld x (Rect.unit (s := s) o s.size h) = x := by
  subst ho
  funext y
  exact congrArg x (funext fun a => Fin.ext (by simp [Rect.emb, Rect.unit]))

/-- The rows of a block in use, from its rows, the two weights as kept and the two biases. -/
def rows (x : Vec F S512x1024 .f32) (wg : Vec F S1024x2048 .bf16) (bg : Vec F S1x1x2048 .f32) (wd : Vec F S1024x1024 .bf16) (bd : Vec F S1x1x1024 .f32) : Vec F S512x1024 .f32 :=
  k0_pay3 (k0_pay5 x)
    (k0_pay6 x bd (View.ld wg (Rect.unit (s := S1024x2048) ![0, 0] S1024x512.size inb_S1024x2048_S1024x512_0_0)) (View.ld bg (Rect.unit (s := S1x1x2048) ![0, 0, 0] S1x1x512.size inb_S1x1x2048_S1x1x512_0_0_0))
      (View.ld wg (Rect.unit (s := S1024x2048) ![0, 1024] S1024x512.size inb_S1024x2048_S1024x512_0_1024)) (View.ld bg (Rect.unit (s := S1x1x2048) ![0, 0, 1024] S1x1x512.size inb_S1x1x2048_S1x1x512_0_0_1024))
      (View.ld wd (Rect.unit (s := S1024x1024) ![0, 0] S512x1024.size inb_S1024x1024_S512x1024_0_0)))
    (View.ld wg (Rect.unit (s := S1024x2048) ![0, 512] S1024x512.size inb_S1024x2048_S1024x512_0_512)) (View.ld bg (Rect.unit (s := S1x1x2048) ![0, 0, 512] S1x1x512.size inb_S1x1x2048_S1x1x512_0_0_512))
    (View.ld wg (Rect.unit (s := S1024x2048) ![0, 1536] S1024x512.size inb_S1024x2048_S1024x512_0_1536)) (View.ld bg (Rect.unit (s := S1x1x2048) ![0, 0, 1536] S1x1x512.size inb_S1x1x2048_S1x1x512_0_0_1536))
    (View.ld wd (Rect.unit (s := S1024x1024) ![512, 0] S512x1024.size inb_S1024x1024_S512x1024_512_0))

/-- One grid point: the kept weights are read anew or stay, and the block's rows are computed or set to zero. -/
theorem body_run (c : Dev nD) (E : Set ℕ) (i : grid0.Coords) (q1 q2 : PosShare TreeShare) (g1 : Vec F S288 .i32) (g2 : Vec F S1 .i32) (arg1 : Memref sig .tc .smem S288 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (x3 : Vec F S512x1024 .f32) (x4 : Vec F S1x1024x2048 .f32) (x5 : Vec F S1x1x2048 .f32) (x6 : Vec F S1x1024x1024 .f32) (x7 : Vec F S1x1x1024 .f32) (x9 : Vec F S1024x2048 .bf16) (x10 : Vec F S1024x1024 .bf16) (K : sProp 𝕄)
    (hx : k0_cond3 i (nUsed g2) = 1#1 ↔ ¬k0_cond2 i (nUsed g2) = 1#1) :
    iprop(owns (c : Thread nD τ) arg1 q1 g1 ∗ owns (c : Thread nD τ) arg2 q2 g2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
      ∗ ((owns (c : Thread nD τ) arg1 q1 g1 ∗ owns (c : Thread nD τ) arg2 q2 g2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (if k0_cond2 i (nUsed g2) = 1#1 then rows x3 (if fresh i (nUsed g2) (eAt g1 (k0_off1 i) (k0_off1_inb i)) (eAt g1 (k0_off2 i) (k0_off2_inb i)) = 1#1 then k0_pay1 x4 else x9) x5 (if fresh i (nUsed g2) (eAt g1 (k0_off1 i) (k0_off1_inb i)) (eAt g1 (k0_off2 i) (k0_off2_inb i)) = 1#1 then k0_pay2 x6 else x10) x7 else k0_pay4) ∗ owns (c : Thread nD τ) arg9 fullShare (if fresh i (nUsed g2) (eAt g1 (k0_off1 i) (k0_off1_inb i)) (eAt g1 (k0_off2 i) (k0_off2_inb i)) = 1#1 then k0_pay1 x4 else x9) ∗ owns (c : Thread nD τ) arg10 fullShare (if fresh i (nUsed g2) (eAt g1 (k0_off1 i) (k0_off1_inb i)) (eAt g1 (k0_off2 i) (k0_off2_inb i)) = 1#1 then k0_pay2 x6 else x10)) -∗ K))
    ⊢ wp frame (wpE (defs₀ (F := F)) Variants.none (c : Thread nD τ) none) E (cc0_moe_experts i arg1 harg1 arg2 harg2 arg3 harg3 arg4 harg4 arg5 harg5 arg6 harg6 arg7 harg7 arg8 harg8 arg9 harg9 arg10 harg10) (fun _ => K) := by
  simp only [cc0_moe_experts_eq_skeleton]; unfold cc0_moe_experts_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  sl_exec
  have ld3 : View.ld x3 (Rect.unit (s := S512x1024) ![0, 0] S512x1024.size inb_S512x1024_S512x1024_0_0) = x3 := ld_all x3 _ (by decide) _
  have ld4 : View.ld x4 (Rect.unit (s := S1x1024x2048) ![0, 0, 0] S1x1024x2048.size inb_S1x1024x2048_S1x1024x2048_0_0_0) = x4 := ld_all x4 _ (by decide) _
  have ld6 : View.ld x6 (Rect.unit (s := S1x1024x1024) ![0, 0, 0] S1x1024x1024.size inb_S1x1024x1024_S1x1024x1024_0_0_0) = x6 := ld_all x6 _ (by decide) _
  have ld7 : View.ld x7 (Rect.unit (s := S1x1x1024) ![0, 0, 0] S1x1x1024.size inb_S1x1x1024_S1x1x1024_0_0_0) = x7 := ld_all x7 _ (by decide) _
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_run_names
    have e1 : ∀ r : Rect S288, arg1.view.readAt (Elt F) r.toLoadRect (harg1.unread g1) = View.ld g1 r := fun r => by rw [View.readAt_eq_ld, harg1.read_unread]
    have e2 : ∀ r : Rect S1, arg2.view.readAt (Elt F) r.toLoadRect (harg2.unread g2) = View.ld g2 r := fun r => by rw [View.readAt_eq_ld, harg2.read_unread]
    have e3 : ∀ r : Rect S512x1024, arg3.view.readAt (Elt F) r.toLoadRect (harg3.unread x3) = View.ld x3 r := fun r => by rw [View.readAt_eq_ld, harg3.read_unread]
    have e4 : ∀ r : Rect S1x1024x2048, arg4.view.readAt (Elt F) r.toLoadRect (harg4.unread x4) = View.ld x4 r := fun r => by rw [View.readAt_eq_ld, harg4.read_unread]
    have e5 : ∀ r : Rect S1x1x2048, arg5.view.readAt (Elt F) r.toLoadRect (harg5.unread x5) = View.ld x5 r := fun r => by rw [View.readAt_eq_ld, harg5.read_unread]
    have e6 : ∀ r : Rect S1x1024x1024, arg6.view.readAt (Elt F) r.toLoadRect (harg6.unread x6) = View.ld x6 r := fun r => by rw [View.readAt_eq_ld, harg6.read_unread]
    have e7 : ∀ r : Rect S1x1x1024, arg7.view.readAt (Elt F) r.toLoadRect (harg7.unread x7) = View.ld x7 r := fun r => by rw [View.readAt_eq_ld, harg7.read_unread]
    have e9 : ∀ r : Rect S1024x2048, arg9.view.readAt (Elt F) r.toLoadRect (harg9.unread x9) = View.ld x9 r := fun r => by rw [View.readAt_eq_ld, harg9.read_unread]
    have e10 : ∀ r : Rect S1024x1024, arg10.view.readAt (Elt F) r.toLoadRect (harg10.unread x10) = View.ld x10 r := fun r => by rw [View.readAt_eq_ld, harg10.read_unread]
    simp (config := { proj := false, dsimp := false }) only [e1, e2, e3, e4, e5, e6, e7]
    by_cases h2 : k0_cond2 i (nUsed g2) = 1#1
    · have h3 : ¬k0_cond3 i (nUsed g2) = 1#1 := fun h => hx.1 h h2
      rw [if_pos h2]
      refine (congrArg _ (dif_neg h3)).trans ((congrArg _ (dif_pos h2)).trans ?_)
      refine (View.read_writes_full arg8.view f8 inb_S512x1024_S512x1024_0_0 _ []).trans ?_
      by_cases hf : fresh i (nUsed g2) (eAt g1 (k0_off1 i) (k0_off1_inb i)) (eAt g1 (k0_off2 i) (k0_off2_inb i)) = 1#1
      · rw [if_pos hf, if_pos hf]
        have w9 : ∀ r : Rect S1024x2048, arg9.view.readAt (Elt F) r.toLoadRect (arg9.view.writes (Elt F) (harg9.unread x9) [⟨Rect.unit ![0, 0] ![1024, 2048] inb_S1024x2048_S1024x2048_0_0, k0_pay1 x4⟩]) = View.ld (k0_pay1 x4) r := fun r => by
          rw [View.readAt_eq_ld]; exact congrArg (View.ld · r) (View.read_writes_full arg9.view _ inb_S1024x2048_S1024x2048_0_0 _ [])
        have w10 : ∀ r : Rect S1024x1024, arg10.view.readAt (Elt F) r.toLoadRect (arg10.view.writes (Elt F) (harg10.unread x10) [⟨Rect.unit ![0, 0] ![1024, 1024] inb_S1024x1024_S1024x1024_0_0, k0_pay2 x6⟩]) = View.ld (k0_pay2 x6) r := fun r => by
          rw [View.readAt_eq_ld]; exact congrArg (View.ld · r) (View.read_writes_full arg10.view _ inb_S1024x1024_S1024x1024_0_0 _ [])
        unfold fresh nUsed eAt at hf
        simp (config := { proj := false, dsimp := false }) only [dif_pos hf]
        rw [ld4, ld6]
        simp (config := { proj := false, dsimp := false }) only [w9, w10, ld3, ld7]
        rfl
      · rw [if_neg hf, if_neg hf]
        unfold fresh nUsed eAt at hf
        simp (config := { proj := false, dsimp := false }) only [dif_neg hf, e9, e10, ld3, ld7]
        rfl
    · have h3 : k0_cond3 i (nUsed g2) = 1#1 := hx.2 h2
      rw [if_neg h2]
      refine (congrArg _ (dif_pos h3)).trans ?_
      exact View.read_writes_full arg8.view _ inb_S512x1024_S512x1024_0_0 _ []
  isplitl [H9]
  · iexists _; isplitr; swap; · iexact H9
    ipureintro
    sl_unfold_run_names
    have e1 : ∀ r : Rect S288, arg1.view.readAt (Elt F) r.toLoadRect (harg1.unread g1) = View.ld g1 r := fun r => by rw [View.readAt_eq_ld, harg1.read_unread]
    have e2 : ∀ r : Rect S1, arg2.view.readAt (Elt F) r.toLoadRect (harg2.unread g2) = View.ld g2 r := fun r => by rw [View.readAt_eq_ld, harg2.read_unread]
    have e3 : ∀ r : Rect S512x1024, arg3.view.readAt (Elt F) r.toLoadRect (harg3.unread x3) = View.ld x3 r := fun r => by rw [View.readAt_eq_ld, harg3.read_unread]
    have e4 : ∀ r : Rect S1x1024x2048, arg4.view.readAt (Elt F) r.toLoadRect (harg4.unread x4) = View.ld x4 r := fun r => by rw [View.readAt_eq_ld, harg4.read_unread]
    have e5 : ∀ r : Rect S1x1x2048, arg5.view.readAt (Elt F) r.toLoadRect (harg5.unread x5) = View.ld x5 r := fun r => by rw [View.readAt_eq_ld, harg5.read_unread]
    have e6 : ∀ r : Rect S1x1024x1024, arg6.view.readAt (Elt F) r.toLoadRect (harg6.unread x6) = View.ld x6 r := fun r => by rw [View.readAt_eq_ld, harg6.read_unread]
    have e7 : ∀ r : Rect S1x1x1024, arg7.view.readAt (Elt F) r.toLoadRect (harg7.unread x7) = View.ld x7 r := fun r => by rw [View.readAt_eq_ld, harg7.read_unread]
    have e9 : ∀ r : Rect S1024x2048, arg9.view.readAt (Elt F) r.toLoadRect (harg9.unread x9) = View.ld x9 r := fun r => by rw [View.readAt_eq_ld, harg9.read_unread]
    have e10 : ∀ r : Rect S1024x1024, arg10.view.readAt (Elt F) r.toLoadRect (harg10.unread x10) = View.ld x10 r := fun r => by rw [View.readAt_eq_ld, harg10.read_unread]
    simp (config := { proj := false, dsimp := false }) only [e1, e2, e4, e6]
    by_cases hf : fresh i (nUsed g2) (eAt g1 (k0_off1 i) (k0_off1_inb i)) (eAt g1 (k0_off2 i) (k0_off2_inb i)) = 1#1
    · rw [if_pos hf]
      refine (congrArg _ (dif_pos hf)).trans ?_
      exact (View.read_writes_full arg9.view _ inb_S1024x2048_S1024x2048_0_0 _ []).trans (congrArg k0_pay1 (ld_all x4 _ (by decide) _))
    · rw [if_neg hf]
      refine (congrArg _ (dif_neg hf)).trans ?_
      exact harg9.read_unread _
  · iexists _; isplitr; swap; · iexact H10
    ipureintro
    sl_unfold_run_names
    have e1 : ∀ r : Rect S288, arg1.view.readAt (Elt F) r.toLoadRect (harg1.unread g1) = View.ld g1 r := fun r => by rw [View.readAt_eq_ld, harg1.read_unread]
    have e2 : ∀ r : Rect S1, arg2.view.readAt (Elt F) r.toLoadRect (harg2.unread g2) = View.ld g2 r := fun r => by rw [View.readAt_eq_ld, harg2.read_unread]
    have e3 : ∀ r : Rect S512x1024, arg3.view.readAt (Elt F) r.toLoadRect (harg3.unread x3) = View.ld x3 r := fun r => by rw [View.readAt_eq_ld, harg3.read_unread]
    have e4 : ∀ r : Rect S1x1024x2048, arg4.view.readAt (Elt F) r.toLoadRect (harg4.unread x4) = View.ld x4 r := fun r => by rw [View.readAt_eq_ld, harg4.read_unread]
    have e5 : ∀ r : Rect S1x1x2048, arg5.view.readAt (Elt F) r.toLoadRect (harg5.unread x5) = View.ld x5 r := fun r => by rw [View.readAt_eq_ld, harg5.read_unread]
    have e6 : ∀ r : Rect S1x1024x1024, arg6.view.readAt (Elt F) r.toLoadRect (harg6.unread x6) = View.ld x6 r := fun r => by rw [View.readAt_eq_ld, harg6.read_unread]
    have e7 : ∀ r : Rect S1x1x1024, arg7.view.readAt (Elt F) r.toLoadRect (harg7.unread x7) = View.ld x7 r := fun r => by rw [View.readAt_eq_ld, harg7.read_unread]
    have e9 : ∀ r : Rect S1024x2048, arg9.view.readAt (Elt F) r.toLoadRect (harg9.unread x9) = View.ld x9 r := fun r => by rw [View.readAt_eq_ld, harg9.read_unread]
    have e10 : ∀ r : Rect S1024x1024, arg10.view.readAt (Elt F) r.toLoadRect (harg10.unread x10) = View.ld x10 r := fun r => by rw [View.readAt_eq_ld, harg10.read_unread]
    simp (config := { proj := false, dsimp := false }) only [e1, e2, e4, e6]
    by_cases hf : fresh i (nUsed g2) (eAt g1 (k0_off1 i) (k0_off1_inb i)) (eAt g1 (k0_off2 i) (k0_off2_inb i)) = 1#1
    · rw [if_pos hf]
      refine (congrArg _ (dif_pos hf)).trans ?_
      exact (View.read_writes_full arg10.view _ inb_S1024x1024_S1024x1024_0_0 _ []).trans (congrArg k0_pay2 (ld_all x6 _ (by decide) _))
    · rw [if_neg hf]
      refine (congrArg _ (dif_neg hf)).trans ?_
      exact harg10.read_unread _

end Cert.Kernel2Ideal.Moe

end
-- ==== Proof.Moe.Kit.lean ====
module
public import proofs.«01_k».proof.Proof.Moe.Body
public import Idealize.ShloMosaic.Lib.Pipeline.TableIdle
public import Idealize.ShloMosaic.Lib.Claim
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.WordCmp
public import Idealize.ShloMosaic.Lib.VecWindow
@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the host part leaves them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem toLaunch (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The two tables as launched. -/
def tab : pre0.Contents (Elt F) := fun k => m (((0 : Dev nD) : Thread nD τ).loc (pre0.ref k))

/-- The expert of each block, as launched. -/
def tabE : Vec F S288 .i32 := m (((0 : Dev nD) : Thread nD τ).loc main_arg0)
/-- The number of blocks in use, as launched. -/
def tabN : Vec F S1 .i32 := m (((0 : Dev nD) : Thread nD τ).loc main_arg1)

/-- Every block's expert is one of the 32. -/
def Within : Prop := ∀ x : S288.Idx, (tabE m x : BitVec 32).toNat < 32

theorem tab_ok (h : Within m) : ok0 (tab m) := by
  have aux : ∀ i : grid0.Coords, ((tab m).at 0 (Rect.unit (s := S288) (k0_off1 i) S1.size (k0_off1_inb i)) numel1_S1 : BitVec 32).toNat < 32 := fun i => h _
  unfold ok0
  refine ⟨fun i => ⟨?_, Or.inl rfl⟩, fun i => ⟨?_, Or.inl rfl⟩, fun i => ⟨?_, Or.inl rfl⟩, fun i => ⟨?_, Or.inl rfl⟩⟩
  all_goals
    have hi := Nat.succ_le_of_lt (aux i)
    intro a
    fin_cases a
    · exact (Nat.mul_one _).trans_le hi
    · exact Nat.le_of_eq rfl
    · exact Nat.le_of_eq rfl

/-- The launch at these tables. -/
def adm (h : Within m) : (pcfg0 (F := F)).Adm := ⟨tab m, tab_ok m h⟩

theorem tab_kept (h : Within m) (c : Dev nD) (k : Fin pre0.K) : V m c (pre0.ref k) = (adm m h).1 k := by
  have hc : c = 0 := Subsingleton.elim _ _
  subst hc
  match k with
  | 0 => exact V_arg0 m 0
  | 1 => exact V_arg1 m 0

variable (h : Within m)

abbrev cfgA : Pipeline.Cfg sig Λ₀ := cfg0 (adm m h)

/-- Window `w`'s block at point `t`. -/
def iblk (c : Dev nD) (w : Fin (cfgA m h).W) (t : Fin (cfgA m h).N) : (((cfgA m h).win w).xblock ((cfgA m h).grid.coords t)).Idx → Elt F ((cfgA m h).win w).elt :=
  (((cfgA m h).win w).blk t).view.read (Elt F) (V m c (Pipeline.arrRef spec0 w))

theorem before0 {c : Dev nD} (dat : Dat τ (Elt F) Unit ℕ (UR sig nD τ) ℕ (cfgA m h) c) (hA : dat.A 0 = V m c (Pipeline.arrRef spec0 0))
    (hafter : ∀ t, dat.after 0 t = iblk m h c 0 t) (t : Fin (cfgA m h).N) (d) : dat.before 0 t d = iblk m h c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (UR sig nD τ) ℕ (cfgA m h) c) (hA : dat.A 1 = V m c (Pipeline.arrRef spec0 1))
    (hafter : ∀ t, dat.after 1 t = iblk m h c 1 t) (t : Fin (cfgA m h).N) (d) : dat.before 1 t d = iblk m h c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (UR sig nD τ) ℕ (cfgA m h) c) (hA : dat.A 2 = V m c (Pipeline.arrRef spec0 2))
    (hafter : ∀ t, dat.after 2 t = iblk m h c 2 t) (t : Fin (cfgA m h).N) (d) : dat.before 2 t d = iblk m h c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (UR sig nD τ) ℕ (cfgA m h) c) (hA : dat.A 3 = V m c (Pipeline.arrRef spec0 3))
    (hafter : ∀ t, dat.after 3 t = iblk m h c 3 t) (t : Fin (cfgA m h).N) (d) : dat.before 3 t d = iblk m h c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4 {c : Dev nD} (dat : Dat τ (Elt F) Unit ℕ (UR sig nD τ) ℕ (cfgA m h) c) (hA : dat.A 4 = V m c (Pipeline.arrRef spec0 4))
    (hafter : ∀ t, dat.after 4 t = iblk m h c 4 t) (t : Fin (cfgA m h).N) (d) : dat.before 4 t d = iblk m h c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel2Ideal.Moe

end
-- ==== Proof.Moe.Words.lean ====
module
public import proofs.«01_k».proof.Proof.Moe.Kit
@[expose] public section

set_option maxRecDepth 16384

noncomputable section

namespace Cert.Kernel2Ideal.Moe

open Cert.Kernel2Ideal.Gen
open Idealize.ShloMosaic

/-- Whether block `i` is in use, `n` blocks being. -/
def used (i : grid0.Coords) (n : BitVec 32) : Prop := BitVec.slt (BitVec.ofNat 32 (i 0).val) n = true

theorem bit_of (b : Bool) : (BitVec.ofBool b = 1#1) ↔ b = true := by cases b <;> decide
theorem bit_wide (b : Bool) : (BitVec.ofBool ((BitVec.ofBool b).setWidth 32 != 0#32) = 1#1) ↔ b = true := by cases b <;> decide

theorem cond2_iff (i : grid0.Coords) (n : BitVec 32) : k0_cond2 i n = 1#1 ↔ used i n := bit_wide _

theorem cond3_iff (i : grid0.Coords) (n : BitVec 32) : k0_cond3 i n = 1#1 ↔ ¬used i n := by
  refine (bit_wide (BitVec.sle n (BitVec.ofNat 32 (i 0).val))).trans ?_
  unfold used
  rw [BitVec.sle_eq_not_slt]
  cases BitVec.slt (BitVec.ofNat 32 (i 0).val) n <;> decide

theorem conds (i : grid0.Coords) (n : BitVec 32) : k0_cond3 i n = 1#1 ↔ ¬k0_cond2 i n = 1#1 := by
  rw [cond2_iff, cond3_iff]

theorem fresh_iff (i : grid0.Coords) (n a b : BitVec 32) : fresh i n a b = 1#1 ↔ used i n ∧ ((i 0).val = 0 ∨ a ≠ b) := by
  have key : ∀ p q r : Bool, (BitVec.ofBool ((BitVec.setWidth 32 (BitVec.ofBool p &&& (BitVec.ofBool q ||| BitVec.ofBool r))) != 0#32) = 1#1) ↔ (p = true ∧ (q = true ∨ r = true)) := by decide
  refine (key (BitVec.slt (BitVec.ofNat 32 (i 0).val) n) (BitVec.ofNat 32 (i 0).val == 0#32) (a != b)).trans ?_
  unfold used
  have hi : (i 0).val < 288 := (i 0).isLt
  rw [beq_iff_eq, bne_iff_ne]
  refine and_congr Iff.rfl (or_congr ⟨fun h => ?_, fun h => by rw [h]⟩ Iff.rfl)
  have := congrArg BitVec.toNat h
  rw [BitVec.toNat_ofNat] at this
  have e : (0#32).toNat = 0 := rfl
  omega

theorem coord : ∀ t : Fin grid0.N, (grid0.coords t 0).val = t.val := by decide +kernel

theorem used_before {i j : grid0.Coords} {n : BitVec 32} (h : (j 0).val ≤ (i 0).val) (u : used i n) : used j n := by
  have hi : (i 0).val < 288 := (i 0).isLt
  unfold used at *
  rw [BitVec.slt_iff_toInt_lt] at *
  have e : ∀ k : Nat, k < 288 → (BitVec.ofNat 32 k).toInt = k := fun k hk => by
    rw [BitVec.toInt_eq_toNat_of_lt (by rw [BitVec.toNat_ofNat]; omega), BitVec.toNat_ofNat]
    omega
  rw [e _ hi] at u
  rw [e _ (by omega)]
  omega

theorem used_iff (i : grid0.Coords) (n : BitVec 32) : used i n ↔ ((i 0).val : Int) < n.toInt := by
  have hi : (i 0).val < 288 := (i 0).isLt
  unfold used
  rw [BitVec.slt_iff_toInt_lt, BitVec.toInt_eq_toNat_of_lt (by rw [BitVec.toNat_ofNat]; omega), BitVec.toNat_ofNat,
    Nat.mod_eq_of_lt (by omega)]

theorem off2_aux : ∀ k : Fin 288, k.val ≠ 0 → (Scalar.indexCast (Scalar.maxsi (Scalar.subi (BitVec.ofNat 32 k.val) 1#32) 0#32)).toNat = k.val - 1 := by
  decide +kernel

theorem off2_eq (i j : grid0.Coords) (h : (j 0).val + 1 = (i 0).val) : k0_off2 i = k0_off1 j := by
  rw [k0_off1_eq]
  have := off2_aux (i 0) (by omega)
  show ![(Scalar.indexCast (Scalar.maxsi (Scalar.subi (BitVec.ofNat 32 (i 0).val) 1#32) 0#32)).toNat] = ![(j 0).val]
  rw [this]
  congr 1
  omega

theorem eAt_congr {F : FTy → Type} (g : Vec F S288 .i32) {o o' : Fin 1 → Nat} (e : o = o') (h h') : eAt g o h = eAt g o' h' := by
  subst e; rfl

end Cert.Kernel2Ideal.Moe

end
-- ==== Proof.Moe.Point.lean ====
module
public import proofs.«01_k».proof.Proof.Moe.Kit
public import proofs.«01_k».proof.Proof.Moe.Words
public import proofs.«01_k».proof.Proof.Moe.Body
public import Idealize.ShloMosaic.Lib.Claim
@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (h : Within m)

/-- The expert of the block at point `t`. -/
def expertAt (t : Fin grid0.N) : BitVec 32 := eAt (tabE m) (k0_off1 (grid0.coords t)) (k0_off1_inb (grid0.coords t))

/-- Whether the block at point `t` is in use. -/
def usedAt (t : Fin grid0.N) : Prop := used (grid0.coords t) (nUsed (tabN m))

theorem same1 (c : Dev nD) (t s : Fin grid0.N) (e : expertAt m t = expertAt m s) : (iblk m h c 1 t : Vec F S1x1024x2048 .f32) = iblk m h c 1 s := by
  funext y
  unfold iblk
  rw [View.read_apply, View.read_apply]
  show V m c main_arg3 _ = V m c main_arg3 _
  congr 1
  funext a
  apply Fin.ext
  match a with
  | ⟨0, _⟩ => exact congrArg (fun v : BitVec 32 => v.toNat * 1 + 1 * ((show S1x1024x2048.Idx from y) 0).val) e
  | ⟨1, _⟩ => rfl
  | ⟨2, _⟩ => rfl

theorem same3 (c : Dev nD) (t s : Fin grid0.N) (e : expertAt m t = expertAt m s) : (iblk m h c 3 t : Vec F S1x1024x1024 .f32) = iblk m h c 3 s := by
  funext y
  unfold iblk
  rw [View.read_apply, View.read_apply]
  show V m c main_arg5 _ = V m c main_arg5 _
  congr 1
  funext a
  apply Fin.ext
  match a with
  | ⟨0, _⟩ => exact congrArg (fun v : BitVec 32 => v.toNat * 1 + 1 * ((show S1x1024x1024.Idx from y) 0).val) e
  | ⟨1, _⟩ => rfl
  | ⟨2, _⟩ => rfl

/-- The rows point `t` writes. -/
def outAt (c : Dev nD) (t : Fin grid0.N) : Vec F S512x1024 .f32 :=
  if k0_cond2 (grid0.coords t) (nUsed (tabN m)) = 1#1 then rows (iblk m h c 0 t) (k0_pay1 (iblk m h c 1 t)) (iblk m h c 2 t) (k0_pay2 (iblk m h c 3 t)) (iblk m h c 4 t) else k0_pay4

/-- What the kept weights are after a block in use. -/
def Kept (c : Dev nD) (n : Nat) (a9 : Vec F S1024x2048 .bf16) (a10 : Vec F S1024x1024 .bf16) : Prop :=
  ∀ s : Fin grid0.N, s.val + 1 = n → usedAt m s → a9 = k0_pay1 (iblk m h c 1 s) ∧ a10 = k0_pay2 (iblk m h c 3 s)

abbrev sc0 : Memref sig .tc .vmem S1024x2048 .bf16 := Memref.whole cc0_scratch0
abbrev sc1 : Memref sig .tc .vmem S1024x1024 .bf16 := Memref.whole cc0_scratch1
abbrev tb0 : Memref sig .tc .smem S288 .i32 := Memref.whole main_arg0
abbrev tb1 : Memref sig .tc .smem S1 .i32 := Memref.whole main_arg1

/-- What is carried from point to point: the kept weights and the two tables. -/
def carry (c : Dev nD) (n : Nat) : sProp 𝕄 :=
  iprop(∃ a9 a10, ⌜Kept m h c n a9 a10⌝ ∗ owns (c : Thread nD τ) sc0 fullShare a9 ∗ owns (c : Thread nD τ) sc1 fullShare a10 ∗ (∃ r, prngReg c r)
    ∗ owns (c : Thread nD τ) tb0 fullShare.right (tabE m) ∗ owns (c : Thread nD τ) tb1 fullShare.right (tabN m))

/-- A point leaves its input blocks in place and its rows in the block of results. -/
def dat (c : Dev nD) : Dat τ (Elt F) Unit ℕ (UR sig nD τ) ℕ (cfgA m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => outAt m h c t
  Φ t := carry m h c t.val
  q _ := fullShare
  owed _ := 0

theorem dat_A (c : Dev nD) (w : Fin (cfgA m h).W) : (dat m h c).A w = V m c (Pipeline.arrRef spec0 w) := by
  dsimp only [dat]

theorem aft0 (c : Dev nD) (t : Fin (cfgA m h).N) : (dat m h c).after 0 t = iblk m h c 0 t := by first | rfl | (dsimp only [dat]; rfl)
theorem aft1 (c : Dev nD) (t : Fin (cfgA m h).N) : (dat m h c).after 1 t = iblk m h c 1 t := by first | rfl | (dsimp only [dat]; rfl)
theorem aft2 (c : Dev nD) (t : Fin (cfgA m h).N) : (dat m h c).after 2 t = iblk m h c 2 t := by first | rfl | (dsimp only [dat]; rfl)
theorem aft3 (c : Dev nD) (t : Fin (cfgA m h).N) : (dat m h c).after 3 t = iblk m h c 3 t := by first | rfl | (dsimp only [dat]; rfl)
theorem aft4 (c : Dev nD) (t : Fin (cfgA m h).N) : (dat m h c).after 4 t = iblk m h c 4 t := by first | rfl | (dsimp only [dat]; rfl)
theorem aft5 (c : Dev nD) (t : Fin (cfgA m h).N) : (dat m h c).after 5 t = outAt m h c t := by first | rfl | (dsimp only [dat]; rfl)
theorem bef0 (c : Dev nD) (t : Fin (cfgA m h).N) (d) : (dat m h c).before 0 t d = iblk m h c 0 t := before0 m h (dat m h c) (dat_A m h c 0) (aft0 m h c) t d
theorem bef1 (c : Dev nD) (t : Fin (cfgA m h).N) (d) : (dat m h c).before 1 t d = iblk m h c 1 t := before1 m h (dat m h c) (dat_A m h c 1) (aft1 m h c) t d
theorem bef2 (c : Dev nD) (t : Fin (cfgA m h).N) (d) : (dat m h c).before 2 t d = iblk m h c 2 t := before2 m h (dat m h c) (dat_A m h c 2) (aft2 m h c) t d
theorem bef3 (c : Dev nD) (t : Fin (cfgA m h).N) (d) : (dat m h c).before 3 t d = iblk m h c 3 t := before3 m h (dat m h c) (dat_A m h c 3) (aft3 m h c) t d
theorem bef4 (c : Dev nD) (t : Fin (cfgA m h).N) (d) : (dat m h c).before 4 t d = iblk m h c 4 t := before4 m h (dat m h c) (dat_A m h c 4) (aft4 m h c) t d
abbrev ms0 (t : Fin (cfgA m h).N) : Memref sig .tc .vmem S512x1024 .f32 := spec0_0.stage ((cfgA m h).slots t 0)
theorem hs0 (t : Fin (cfgA m h).N) : (ms0 m h t).IsWhole := hstage0_0 (((cfgA m h).slots t 0).cast nbuf0_0)
abbrev ms1 (t : Fin (cfgA m h).N) : Memref sig .tc .vmem S1x1024x2048 .f32 := spec0_1.stage ((cfgA m h).slots t 1)
theorem hs1 (t : Fin (cfgA m h).N) : (ms1 m h t).IsWhole := hstage0_1 (((cfgA m h).slots t 1).cast nbuf0_1)
abbrev ms2 (t : Fin (cfgA m h).N) : Memref sig .tc .vmem S1x1x2048 .f32 := spec0_2.stage ((cfgA m h).slots t 2)
theorem hs2 (t : Fin (cfgA m h).N) : (ms2 m h t).IsWhole := hstage0_2 (((cfgA m h).slots t 2).cast nbuf0_2)
abbrev ms3 (t : Fin (cfgA m h).N) : Memref sig .tc .vmem S1x1024x1024 .f32 := spec0_3.stage ((cfgA m h).slots t 3)
theorem hs3 (t : Fin (cfgA m h).N) : (ms3 m h t).IsWhole := hstage0_3 (((cfgA m h).slots t 3).cast nbuf0_3)
abbrev ms4 (t : Fin (cfgA m h).N) : Memref sig .tc .vmem S1x1x1024 .f32 := spec0_4.stage ((cfgA m h).slots t 4)
theorem hs4 (t : Fin (cfgA m h).N) : (ms4 m h t).IsWhole := hstage0_4 (((cfgA m h).slots t 4).cast nbuf0_4)
abbrev ms5 (t : Fin (cfgA m h).N) : Memref sig .tc .vmem S512x1024 .f32 := spec0_5.stage ((cfgA m h).slots t 5)
theorem hs5 (t : Fin (cfgA m h).N) : (ms5 m h t).IsWhole := hstage0_5 (((cfgA m h).slots t 5).cast nbuf0_5)

/-- What a grid point starts from. -/
def Pre (c : Dev nD) (t : Fin (cfgA m h).N) : sProp 𝕄 :=
  iprop((dat m h c).Φ t.castSucc ∗ (dat m h c).owesAt () t.castSucc
    ∗ (∃ d, owns (c : Thread nD τ) (ms0 m h t) fullShare ((dat m h c).before 0 t d))
    ∗ (∃ d, owns (c : Thread nD τ) (ms1 m h t) fullShare ((dat m h c).before 1 t d))
    ∗ (∃ d, owns (c : Thread nD τ) (ms2 m h t) fullShare ((dat m h c).before 2 t d))
    ∗ (∃ d, owns (c : Thread nD τ) (ms3 m h t) fullShare ((dat m h c).before 3 t d))
    ∗ (∃ d, owns (c : Thread nD τ) (ms4 m h t) fullShare ((dat m h c).before 4 t d))
    ∗ (∃ d, owns (c : Thread nD τ) (ms5 m h t) fullShare ((dat m h c).before 5 t d)))

/-- What it ends with. -/
def Post (c : Dev nD) (t : Fin (cfgA m h).N) : sProp 𝕄 :=
  iprop((dat m h c).Φ t.succ ∗ (dat m h c).owesAt () t.succ
    ∗ owns (c : Thread nD τ) (ms0 m h t) fullShare ((dat m h c).after 0 t)
    ∗ owns (c : Thread nD τ) (ms1 m h t) fullShare ((dat m h c).after 1 t)
    ∗ owns (c : Thread nD τ) (ms2 m h t) fullShare ((dat m h c).after 2 t)
    ∗ owns (c : Thread nD τ) (ms3 m h t) fullShare ((dat m h c).after 3 t)
    ∗ owns (c : Thread nD τ) (ms4 m h t) fullShare ((dat m h c).after 4 t)
    ∗ owns (c : Thread nD τ) (ms5 m h t) fullShare ((dat m h c).after 5 t))

abbrev bodyAt (t : Fin (cfgA m h).N) : Prog (TpuEff nD τ sig (Elt F) Λ₀ .tc) PUnit :=
  cc0_moe_experts (grid0.coords t) tb0 (Memref.isWhole_whole _) tb1 (Memref.isWhole_whole _) (ms0 m h t) (hs0 m h t) (ms1 m h t) (hs1 m h t) (ms2 m h t) (hs2 m h t) (ms3 m h t) (hs3 m h t) (ms4 m h t) (hs4 m h t) (ms5 m h t) (hs5 m h t) sc0 (Memref.isWhole_whole _) sc1 (Memref.isWhole_whole _)

/-- The kept weights at a point in use are that point's own. -/
theorem kept_now (c : Dev nD) (t : Fin grid0.N) (a9 : Vec F S1024x2048 .bf16) (a10 : Vec F S1024x1024 .bf16) (k : Kept m h c t.val a9 a10) (u : usedAt m t) :
    (if fresh (grid0.coords t) (nUsed (tabN m)) (eAt (tabE m) (k0_off1 (grid0.coords t)) (k0_off1_inb (grid0.coords t))) (eAt (tabE m) (k0_off2 (grid0.coords t)) (k0_off2_inb (grid0.coords t))) = 1#1 then k0_pay1 (iblk m h c 1 t) else a9) = k0_pay1 (iblk m h c 1 t)
    ∧ (if fresh (grid0.coords t) (nUsed (tabN m)) (eAt (tabE m) (k0_off1 (grid0.coords t)) (k0_off1_inb (grid0.coords t))) (eAt (tabE m) (k0_off2 (grid0.coords t)) (k0_off2_inb (grid0.coords t))) = 1#1 then k0_pay2 (iblk m h c 3 t) else a10) = k0_pay2 (iblk m h c 3 t) := by
  by_cases hf : fresh (grid0.coords t) (nUsed (tabN m)) (eAt (tabE m) (k0_off1 (grid0.coords t)) (k0_off1_inb (grid0.coords t))) (eAt (tabE m) (k0_off2 (grid0.coords t)) (k0_off2_inb (grid0.coords t))) = 1#1
  · rw [if_pos hf, if_pos hf]; exact ⟨rfl, rfl⟩
  · rw [if_neg hf, if_neg hf]
    rw [fresh_iff, not_and, not_or, not_not] at hf
    obtain ⟨h0, he⟩ := hf u
    rw [coord] at h0
    have hlt := t.isLt
    have hs : (⟨t.val - 1, by omega⟩ : Fin grid0.N).val + 1 = t.val := Nat.succ_pred_eq_of_ne_zero h0
    have hc : (grid0.coords ⟨t.val - 1, by omega⟩ 0).val + 1 = (grid0.coords t 0).val := by rw [coord, coord]; exact hs
    have ho := off2_eq _ _ hc
    have e : expertAt m t = expertAt m ⟨t.val - 1, by omega⟩ := he.trans (eAt_congr _ ho _ _)
    obtain ⟨k9, k10⟩ := k ⟨t.val - 1, by omega⟩ hs (used_before (by omega) u)
    rw [k9, k10, same1 m h c t _ e, same3 m h c t _ e]
    exact ⟨rfl, rfl⟩

set_option maxHeartbeats 1600000 in
/-- One grid point, from `body_run`. -/
theorem point_run (c : Dev nD) (t : Fin (cfgA m h).N) :
    Pre m h c t ⊢ wp frame (wpE (defs₀ (F := F)) Variants.none c none) Set.univ (bodyAt m h t) (fun _ => Post m h c t) := by
  unfold Pre Post
  simp only [bef0, bef1, bef2, bef3, bef4]
  rw [show (dat m h c).Φ t.succ = carry m h c (t.val + 1) from rfl, show (dat m h c).Φ t.castSucc = carry m h c t.val from rfl,
    show (dat m h c).owesAt () t.succ = (dat m h c).owesAt () t.castSucc from rfl,
    aft0, aft1, aft2, aft3, aft4, aft5]
  unfold carry
  iintro ⟨⟨%a9, %a10, %hk, S0, S1, Hg, T0, T1⟩, Ho, ⟨%_, H0⟩, ⟨%_, H1⟩, ⟨%_, H2⟩, ⟨%_, H3⟩, ⟨%_, H4⟩, ⟨%_, H5⟩⟩
  have hrows : (if k0_cond2 (grid0.coords t) (nUsed (tabN m)) = 1#1 then rows (iblk m h c 0 t) (if fresh (grid0.coords t) (nUsed (tabN m)) (eAt (tabE m) (k0_off1 (grid0.coords t)) (k0_off1_inb (grid0.coords t))) (eAt (tabE m) (k0_off2 (grid0.coords t)) (k0_off2_inb (grid0.coords t))) = 1#1 then k0_pay1 (iblk m h c 1 t) else a9) (iblk m h c 2 t) (if fresh (grid0.coords t) (nUsed (tabN m)) (eAt (tabE m) (k0_off1 (grid0.coords t)) (k0_off1_inb (grid0.coords t))) (eAt (tabE m) (k0_off2 (grid0.coords t)) (k0_off2_inb (grid0.coords t))) = 1#1 then k0_pay2 (iblk m h c 3 t) else a10) (iblk m h c 4 t) else k0_pay4) = outAt m h c t := by
    unfold outAt
    by_cases hu : k0_cond2 (grid0.coords t) (nUsed (tabN m)) = 1#1
    · obtain ⟨e9, e10⟩ := kept_now m h c t a9 a10 hk ((cond2_iff _ _).mp hu)
      rw [if_pos hu, if_pos hu, e9, e10]
    · rw [if_neg hu, if_neg hu]
  iapply (body_run c Set.univ (grid0.coords t) fullShare.right fullShare.right (tabE m) (tabN m) _ _ _ _ _ _ _ _ _ _ _ _ _ _ _ _ _ _ _ _ (iblk m h c 0 t) (iblk m h c 1 t) (iblk m h c 2 t) (iblk m h c 3 t) (iblk m h c 4 t) a9 a10 _ (conds _ _))
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  rw [hrows]
  iintro ⟨T0, T1, H0, H1, H2, H3, H4, H5, S0, S1⟩
  isplitl [S0 S1 Hg T0 T1]
  · iexists _
    iexists _
    isplitr
    · ipureintro
      intro s hs hu
      have : s = t := Fin.ext (by omega)
      subst this
      exact kept_now m h c s a9 a10 hk hu
    isplitl [S0]; · iexact S0
    isplitl [S1]; · iexact S1
    isplitl [Hg]; · iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  iexact H5

end Cert.Kernel2Ideal.Moe

end
-- ==== Proof.Moe.Run.lean ====
module
public import proofs.«01_k».proof.Proof.Moe.Point
@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (h : Within m)

theorem idle5 (t : Fin (cfgA m h).N) : (cfgA m h).idle 5 ((cfgA m h).grid.coords t) = false := by
  show (!(k0_cond2 (grid0.coords t) _ == 1#1) && !(k0_cond3 (grid0.coords t) _ == 1#1)) = false
  have hc := conds (grid0.coords t) ((tab m).atD 1 ![0])
  by_cases hu : k0_cond2 (grid0.coords t) ((tab m).atD 1 ![0]) = 1#1
  · have e : (k0_cond2 (grid0.coords t) ((tab m).atD 1 ![0]) == 1#1) = true := beq_iff_eq.mpr hu
    exact (congrArg (fun b => !b && _) e).trans (Bool.false_and _)
  · have e : (k0_cond3 (grid0.coords t) ((tab m).atD 1 ![0]) == 1#1) = true := beq_iff_eq.mpr (hc.mpr hu)
    exact (congrArg (fun b => _ && !b) e).trans (Bool.and_false _)

theorem table_row (t : Fin (cfgA m h).N) :
    defs₀ (F := F) .tc (cfgA m h).body ((cfgA m h).bodyArgs t ((cfgA m h).slots t)) = bodyAt m h t := by
  unfold defs₀; rw [Defs.onTc_tc]

theorem obligation (c : Dev nD) : BodyObligation (dat (F := F) m h c) (defs₀ (F := F)) Variants.none () Set.univ := fun t => by
  rw [bigSep_W0, bigSep_W0, table_row]
  refine triple_restated (point_run m h c t) rfl .rfl fun _ => ?_
  have e : idle0 (adm m h).1 5 ((pcfg0.gridAt (adm m h).1).coords t) = false := idle5 m h t
  simp only [e]
  exact .rfl

theorem tables (c : Dev nD) : (Pipeline.ΦT pre0 (tab m) c : sProp 𝕄)
    = iprop(owns (c : Thread nD τ) tb0 fullShare.right (tabE m) ∗ owns (c : Thread nD τ) tb1 fullShare.right (tabN m)) := by
  have hc : c = 0 := Subsingleton.elim _ _
  subst hc
  simp only [owns_whole]
  exact bigSep_univ_eq_bigSepL [(0 : Fin 2), (1 : Fin 2)] (by decide) (by decide) _

theorem start (c : Dev nD) : iprop(Pipeline.ΦA spec0 c ∗ Pipeline.ΦT pre0 (tab m) c) ⊢ carry m h c 0 := by
  rw [tables]
  unfold Pipeline.ΦA
  rw [scopedRest0_eq]
  unfold carry
  simp only [owns_whole]
  iintro ⟨⟨⟨⟨%a9, S0⟩, ⟨%a10, S1⟩⟩, Hg⟩, T0, T1⟩
  iexists a9
  iexists a10
  isplitr
  · ipureintro
    intro s hs
    omega
  isplitl [S0]; · iexact S0
  isplitl [S1]; · iexact S1
  isplitl [Hg]; · iexact Hg
  isplitl [T0]; · iexact T0
  iexact T1

theorem finish (c : Dev nD) (n : Nat) : carry m h c n ⊢ (Pipeline.ΦA spec0 c : sProp 𝕄) := by
  unfold Pipeline.ΦA
  rw [scopedRest0_eq]
  unfold carry
  simp only [owns_whole]
  iintro ⟨%a9, %a10, _, S0, S1, Hg, -⟩
  isplitl [S0 S1]
  · isplitl [S0]
    · iexists _; iexact S0
    · iexists _; iexact S1
  iexact Hg

abbrev adms : (p : Fin 1) → (pcfgs (F := F) p).Adm := fun _ => adm m h
abbrev dats : (p : Fin 1) → (c : Dev nD) → Dat τ (Elt F) Unit ℕ (UR sig nD τ) ℕ (Pipeline.pin (pcfgs (F := F)) (adms m h) p) c := fun _ c => dat m h c

set_option backward.isDefEq.respectTransparency.types false in
/-- Every run ends, with the arrays the launch wrote at what the blocks say and with all counters at zero. -/
theorem launch_run : θ_run defs (onTc (τ := τ) (main (F := F))) (s₀ m ρ) (fun r => (Pipeline.FramePost (Pipeline.pin (pcfgs (F := F)) (adms m h)) (dats m h) 0 (V m)) r ∧ r.2.sem = fun _ => 0) :=
  Pipeline.θ_run_frameP_track (Q' := _) (pcfgs (F := F)) (adms m h) (dats m h) (0 : Fin 1) launch0 defs₀ Variants.none m ρ main
    (hbody := fun c => (obligation m h c).loose) (hshare := fun c => (dat m h c).share_full fun _ => rfl)
    (howed := fun _ _ => rfl) (V := V m) (hmain := toLaunch m Variants.none) (hA := dat_A m h) (hpf := tab_kept m h)
    (hin := fun c => start m h c) (hout := fun c => finish m h c _)

/-- Every run leaves the array of results as the blocks say, the arguments as they were and the counters at zero. -/
theorem result_run : θ_run defs (onTc (τ := τ) (main (F := F))) ⟨m, fun _ => 0, ρ⟩ (fun r => (∀ c : Dev nD,
      r.2.mem ((c.tc : Thread nD τ).loc main_v2) = (dat m h c).arrAt 5 (cfgA m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ) ∧ r.2.sem = fun _ => 0) :=
  (θ_run defs _ _).mono (fun r hr => ⟨fun c => ⟨(hr.1 c).1 5,
      ((hr.1 c).2 main_arg0 (Pipeline.mem_restRefs_of main_arg0 (by decide) (show ∀ w : Fin 6, (spec0 w).arr.view.ref ≠ main_arg0 from by decide))).trans (V_arg0 m c),
      ((hr.1 c).2 main_arg1 (Pipeline.mem_restRefs_of main_arg1 (by decide) (show ∀ w : Fin 6, (spec0 w).arr.view.ref ≠ main_arg1 from by decide))).trans (V_arg1 m c),
      (((hr.1 c).1 0).trans (((dat m h c).arrAt_in 0 rfl _).trans (dat_A m h c 0))).trans (V_arg2 m c),
      (((hr.1 c).1 1).trans (((dat m h c).arrAt_in 1 rfl _).trans (dat_A m h c 1))).trans (V_arg3 m c),
      ((hr.1 c).2 main_arg4 (Pipeline.mem_restRefs_of main_arg4 (by decide) (show ∀ w : Fin 6, (spec0 w).arr.view.ref ≠ main_arg4 from by decide))).trans (V_arg4 m c),
      (((hr.1 c).1 3).trans (((dat m h c).arrAt_in 3 rfl _).trans (dat_A m h c 3))).trans (V_arg5 m c),
      ((hr.1 c).2 main_arg6 (Pipeline.mem_restRefs_of main_arg6 (by decide) (show ∀ w : Fin 6, (spec0 w).arr.view.ref ≠ main_arg6 from by decide))).trans (V_arg6 m c)⟩, hr.2⟩) (launch_run m ρ h)

end Cert.Kernel2Ideal.Moe

end
-- ==== Proof.Moe.Within.lean ====
module
public import proofs.«01_k».proof.Proof.Moe.Run
public import proofs.«01_k».proof.Pre_an_expert
@[expose] public section

set_option maxRecDepth 16384

noncomputable section

namespace Cert.Kernel2Ideal.Moe

open Cert.Kernel2Ideal.Gen
open Idealize.ShloMosaic Idealize.ShloMosaic.TcCoe

variable {F : FTy → Type} [FloatOps F]

/-- A word from 0 to 31, compared signed, is below 32 as a number. -/
theorem word_within (v : BitVec 32) (e : IntOp.andi (IntOp.cmpi .sge v 0#32) (IntOp.cmpi .slt v 32#32) = 1#1) : v.toNat < 32 := by
  have e' : (BitVec.ofBool (!(v.slt 0#32))) &&& (BitVec.ofBool (v.slt 32#32)) = 1#1 := by
    simpa [IntOp.andi, IntOp.cmpi, BitVec.sle_eq_not_slt] using e
  rcases h1 : v.slt 0#32 <;> rcases h2 : v.slt 32#32 <;> simp [h1, h2] at e'
  rw [BitVec.slt_eq_decide] at h1 h2
  have h3 := of_decide_eq_false h1
  have h4 := of_decide_eq_true h2
  have : (32#32 : BitVec 32).toInt = 32 := by decide
  have : (0#32 : BitVec 32).toInt = 0 := by decide
  have := v.isLt
  have := BitVec.toInt_eq_toNat_cond v
  split at this <;> omega

/-- The precondition, of the words alone. -/
theorem within_of [hP : Cert.Pre_an_expert.Facts] (a0 : IVec S288 32) (a1 a2 a3 a4 a5 a6)
    (e : Cert.Pre_an_expert.fn (F := F) a0 a1 a2 a3 a4 a5 a6 = fun _ => 1#1) (x : S288.Idx) : (a0 x : BitVec 32).toNat < 32 :=
  word_within (a0 x) (congrFun e x)

end Cert.Kernel2Ideal.Moe

end
-- ==== Proof.Moe.Arr.lean ====
module
public import proofs.«01_k».proof.Proof.Moe.Run
public import Idealize.ShloMosaic.Lib.Pointwise
@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) (h : Within m) (c : Dev nD)

theorem block_num (t : Fin grid0.N) : (BitVec.ofNat 32 (grid0.coords t 0).val).toNat = t.val := by
  rw [coord t, BitVec.toNat_ofNat]
  have : t.val < 288 := t.isLt.trans_eq N_0
  omega

theorem expert_eq (t : Fin grid0.N) : expertAt m t = tabE m (ix1 ⟨t.val, t.isLt.trans_eq N_0⟩) := by
  unfold expertAt eAt
  show tabE m _ = tabE m _
  congr 1
  funext a
  apply Fin.ext
  match a with
  | ⟨0, _⟩ => show (Scalar.indexCast (BitVec.ofNat 32 (grid0.coords t 0).val)).toNat + 1 * 0 = t.val; exact (Nat.add_zero _).trans (block_num t)

theorem expert_lt (h : Within m) (t : Fin grid0.N) : (expertAt m t).toNat < 32 := by rw [expert_eq]; exact h _

theorem blk_x (t : Fin grid0.N) (r : Fin 512) (d : Fin 1024) (i : Fin 147456) (hi : i.val = 512 * t.val + r.val) :
    (iblk m h c 0 t : Vec F S512x1024 .f32) (ix2 r d) = V m c main_arg2 (ix2 i d) := by
  unfold iblk
  refine (View.read_apply _ _).trans ?_
  show V m c main_arg2 _ = V m c main_arg2 _
  congr 1
  funext a
  apply Fin.ext
  match a with
  | ⟨0, _⟩ => show (BitVec.ofNat 32 (grid0.coords t 0).val).toNat * 512 + 1 * r.val = i.val; rw [block_num]; omega
  | ⟨1, _⟩ => show 0 * 1024 + 1 * d.val = d.val; omega

theorem blk_g (t : Fin grid0.N) (k : Fin 1024) (f : Fin 2048) :
    (iblk m h c 1 t : Vec F S1x1024x2048 .f32) (ix3 0 k f) = V m c main_arg3 (ix3 ⟨(expertAt m t).toNat, expert_lt m h t⟩ k f) := by
  unfold iblk
  refine (View.read_apply _ _).trans ?_
  show V m c main_arg3 _ = V m c main_arg3 _
  congr 1
  funext a
  apply Fin.ext
  match a with
  | ⟨0, _⟩ => show (expertAt m t).toNat * 1 + 1 * 0 = (expertAt m t).toNat; omega
  | ⟨1, _⟩ => show 0 * 1024 + 1 * k.val = k.val; omega
  | ⟨2, _⟩ => show 0 * 2048 + 1 * f.val = f.val; omega

theorem blk_h (t : Fin grid0.N) (f : Fin 2048) :
    (iblk m h c 2 t : Vec F S1x1x2048 .f32) (ix3 0 0 f) = V m c main_v0 (ix3 ⟨(expertAt m t).toNat, expert_lt m h t⟩ 0 f) := by
  unfold iblk
  refine (View.read_apply _ _).trans ?_
  show V m c main_v0 _ = V m c main_v0 _
  congr 1
  funext a
  apply Fin.ext
  match a with
  | ⟨0, _⟩ => show (expertAt m t).toNat * 1 + 1 * 0 = (expertAt m t).toNat; omega
  | ⟨1, _⟩ => show 0 * 1 + 1 * 0 = 0; omega
  | ⟨2, _⟩ => show 0 * 2048 + 1 * f.val = f.val; omega

theorem blk_d (t : Fin grid0.N) (f : Fin 1024) (e : Fin 1024) :
    (iblk m h c 3 t : Vec F S1x1024x1024 .f32) (ix3 0 f e) = V m c main_arg5 (ix3 ⟨(expertAt m t).toNat, expert_lt m h t⟩ f e) := by
  unfold iblk
  refine (View.read_apply _ _).trans ?_
  show V m c main_arg5 _ = V m c main_arg5 _
  congr 1
  funext a
  apply Fin.ext
  match a with
  | ⟨0, _⟩ => show (expertAt m t).toNat * 1 + 1 * 0 = (expertAt m t).toNat; omega
  | ⟨1, _⟩ => show 0 * 1024 + 1 * f.val = f.val; omega
  | ⟨2, _⟩ => show 0 * 1024 + 1 * e.val = e.val; omega

theorem blk_e (t : Fin grid0.N) (e : Fin 1024) :
    (iblk m h c 4 t : Vec F S1x1x1024 .f32) (ix3 0 0 e) = V m c main_v1 (ix3 ⟨(expertAt m t).toNat, expert_lt m h t⟩ 0 e) := by
  unfold iblk
  refine (View.read_apply _ _).trans ?_
  show V m c main_v1 _ = V m c main_v1 _
  congr 1
  funext a
  apply Fin.ext
  match a with
  | ⟨0, _⟩ => show (expertAt m t).toNat * 1 + 1 * 0 = (expertAt m t).toNat; omega
  | ⟨1, _⟩ => show 0 * 1 + 1 * 0 = 0; omega
  | ⟨2, _⟩ => show 0 * 1024 + 1 * e.val = e.val; omega

theorem V_v0 : V m c main_v0 = shapeCast S32x1x2048 (m ((c.tc : Thread nD τ).loc main_arg4)) shapeCasts_S32x2048_S32x1x2048 := by
  show StableHlo.after hostOps0 _ (Proc.devRef .tc main_v0) = _
  after_results
  rfl
theorem V_v1 : V m c main_v1 = shapeCast S32x1x1024 (m ((c.tc : Thread nD τ).loc main_arg6)) shapeCasts_S32x1024_S32x1x1024 := by
  show StableHlo.after hostOps0 _ (Proc.devRef .tc main_v1) = _
  after_results
  rfl

/-- The array of results: each block's rows in its place. -/
def result : FVec F S147456x1024 .f32 := fun j =>
  outAt m h c ⟨(j 0).val / 512, by have : (j 0).val < 147456 := (j 0).isLt; rw [N_0]; omega⟩ (ix2 ⟨(j 0).val % 512, by omega⟩ (j 1))

theorem flush5 (t : Fin (cfgA m h).N) : ((cfgA m h).win 5).flush t = true := by
  have hN : t.val < 288 := t.isLt.trans_eq N_0
  rw [Pipeline.Window.flush_eq_flushOf]
  show (true && (decide (t.val + 1 = grid0.N) || decide (∃ h' : t.val + 1 < grid0.N, cc0_transform_5 (grid0.coords ⟨t.val + 1, h'⟩) ≠ cc0_transform_5 (grid0.coords t)))) = true
  rw [Bool.true_and, Bool.or_eq_true, decide_eq_true_iff, decide_eq_true_iff]
  by_cases hl : t.val + 1 = grid0.N
  · exact Or.inl hl
  · refine Or.inr ⟨by rw [N_0] at hl ⊢; omega, fun hc => ?_⟩
    have := congrFun hc 0
    have e1 : (BitVec.ofNat 32 (grid0.coords ⟨t.val + 1, by rw [N_0] at hl ⊢; omega⟩ 0).val).toNat = (BitVec.ofNat 32 (grid0.coords t 0).val).toNat := this
    rw [block_num, block_num] at e1
    dsimp only at e1
    omega

theorem flushed_eq (t : Fin (cfgA m h).N) : (dat m h c).flushed 5 t = (((cfgA m h).win 5).blk t).view.read (Elt F) (result m h c) := by
  show ((cfgA m h).win 5).cut (grid0.coords t) ((dat m h c).after 5 t) = _
  rw [aft5]
  funext y
  refine Eq.trans ?_ (View.read_apply _ _).symm
  have hy0 : ((show S512x1024.Idx from y) 0).val < 512 := ((show S512x1024.Idx from y) 0).isLt
  have hy1 : ((show S512x1024.Idx from y) 1).val < 1024 := ((show S512x1024.Idx from y) 1).isLt
  have key : ∀ j : S147456x1024.Idx, (j 0).val = 512 * t.val + ((show S512x1024.Idx from y) 0).val → (j 1).val = ((show S512x1024.Idx from y) 1).val →
      outAt m h c t (show S512x1024.Idx from y) = result m h c j := by
    intro j e0 e1
    unfold result
    rw [show (⟨(j 0).val / 512, by have : (j 0).val < 147456 := (j 0).isLt; rw [N_0]; omega⟩ : Fin grid0.N) = t from Fin.ext (by show (j 0).val / 512 = t.val; omega)]
    congr 1
    funext a
    apply Fin.ext
    match a with
    | ⟨0, _⟩ => show ((show S512x1024.Idx from y) 0).val = (j 0).val % 512; omega
    | ⟨1, _⟩ => exact e1.symm
  refine key _ ?_ ?_
  · show (BitVec.ofNat 32 (grid0.coords t 0).val).toNat * 512 + 1 * ((show S512x1024.Idx from y) 0).val = 512 * t.val + ((show S512x1024.Idx from y) 0).val; rw [block_num]; omega
  · show 0 * 1024 + 1 * ((show S512x1024.Idx from y) 1).val = ((show S512x1024.Idx from y) 1).val; omega

theorem mem_blk (t : Fin (cfgA m h).N) (j : S147456x1024.Idx) : j ∈ (((cfgA m h).win 5).blk t).view.set ↔
    ∀ a : Fin 2, cc0_transform_5 (grid0.coords t) a * S512x1024.size a ≤ (j a).val ∧ (j a).val < cc0_transform_5 (grid0.coords t) a * S512x1024.size a + S512x1024.size a := by
  exact (Eq.to_iff (congrArg (fun S : Finset S147456x1024.Idx => j ∈ S) (View.set_slice_whole main_v2 (((cfgA m h).win 5).rect t)))).trans Rect.mem_set_unit

theorem result_all : (dat m h c).arrAt 5 (cfgA m h).N = result m h c :=
  (dat m h c).arrAt_eq_of_cover 5 (result m h c) (fun t _ => flushed_eq m h c t) fun (j : S147456x1024.Idx) => by
    have h0 : (j 0).val < 147456 := (j 0).isLt
    have h1 : (j 1).val < 1024 := (j 1).isLt
    have ht : (j 0).val / 512 < grid0.N := by rw [N_0]; omega
    refine ⟨⟨(j 0).val / 512, ht⟩, flush5 m h _, (mem_blk m h ⟨(j 0).val / 512, ht⟩ j).mpr fun a => ?_⟩
    have hb := block_num ⟨(j 0).val / 512, ht⟩
    match a with
    | ⟨0, _⟩ =>
      show (BitVec.ofNat 32 (grid0.coords ⟨(j 0).val / 512, ht⟩ 0).val).toNat * 512 ≤ (j 0).val ∧ (j 0).val < (BitVec.ofNat 32 (grid0.coords ⟨(j 0).val / 512, ht⟩ 0).val).toNat * 512 + 512
      rw [hb]; dsimp only; omega
    | ⟨1, _⟩ =>
      show 0 * 1024 ≤ (j 1).val ∧ (j 1).val < 0 * 1024 + 1024
      omega

end Cert.Kernel2Ideal.Moe

end
-- ==== Proof.Moe.Read.lean ====
module
public import proofs.«01_k».proof.Proof.Moe.Body
public import Idealize.ShloMosaic.Lib.Pointwise
@[expose] public section

set_option maxRecDepth 16384

noncomputable section

namespace Cert.Kernel2Ideal.Moe

open Cert.Kernel2Ideal.Gen
open Idealize.ShloMosaic Idealize.ShloMosaic.TcCoe Idealize.ShloMosaic.Tactic

/-- What a hidden unit makes of its gate and its other half. -/
def act (g u : EReal) : EReal :=
  (min (Ideal.ofBits FTy.f32 0x40E00000#32) (max (Ideal.ofBits FTy.f32 0xC0E00000#32) u) + Ideal.ofBits FTy.f32 0x3F800000#32) *
    (min g (Ideal.ofBits FTy.f32 0x40E00000#32) * Ideal.logistic (Ideal.ofBits FTy.f32 0x3FD9DB23#32 * min g (Ideal.ofBits FTy.f32 0x40E00000#32)))

/-- A hidden unit of a row. -/
def hid (x : Fin 1024 → EReal) (wg : Fin 1024 → Fin 2048 → EReal) (bg : Fin 2048 → EReal) (f : Fin 1024) : EReal :=
  act (∑ k : Fin 1024, x k * wg k ⟨f.val, by omega⟩ + bg ⟨f.val, by omega⟩) (∑ k : Fin 1024, x k * wg k ⟨1024 + f.val, by omega⟩ + bg ⟨1024 + f.val, by omega⟩)

/-- A row's result in one expert. -/
def rowOut (x : Fin 1024 → EReal) (wg : Fin 1024 → Fin 2048 → EReal) (bg : Fin 2048 → EReal) (wd : Fin 1024 → EReal) (b : EReal) : EReal :=
  ∑ f : Fin 1024, hid x wg bg f * wd f + b

theorem ldw_apply (w : Vec Ideal S1x1024x2048 .f32) (o : Nat) (h) (k : Fin 1024) (f : Fin 512) (ho : o + 512 ≤ 2048) :
    View.ld (k0_pay1 w) (Rect.unit (s := S1024x2048) ![0, o] S1024x512.size h) (ix2 k f) = w (ix3 0 k ⟨o + f.val, by omega⟩) := by
  pointwise [k0_pay1]

theorem ldb_apply (b : Vec Ideal S1x1x2048 .f32) (o : Nat) (h) (f : Fin 512) (ho : o + 512 ≤ 2048) :
    View.ld b (Rect.unit (s := S1x1x2048) ![0, 0, o] S1x1x512.size h) (ix3 0 0 f) = b (ix3 0 0 ⟨o + f.val, by omega⟩) := by
  pointwise

theorem ldd_apply (w : Vec Ideal S1x1024x1024 .f32) (o : Nat) (h) (f : Fin 512) (e : Fin 1024) (ho : o + 512 ≤ 1024) :
    View.ld (k0_pay2 w) (Rect.unit (s := S1024x1024) ![o, 0] S512x1024.size h) (ix2 f e) = w (ix3 0 ⟨o + f.val, by omega⟩ e) := by
  pointwise [k0_pay2]

theorem pay3_apply (x : FVec Ideal S512x1024 .bf16) (a : FVec Ideal S512x1024 .f32) (v55 : Vec Ideal S1024x512 .bf16) (v57 : Vec Ideal S1x1x512 .f32)
    (v61 : Vec Ideal S1024x512 .bf16) (v63 : Vec Ideal S1x1x512 .f32) (v81 : Vec Ideal S512x1024 .bf16) (r : Fin 512) (e : Fin 1024) :
    k0_pay3 x a v55 v57 v61 v63 v81 (ix2 r e) = a (ix2 r e) + ∑ f : Fin 512, act (∑ k : Fin 1024, x (ix2 r k) * v55 (ix2 k f) + v57 (ix3 0 0 f))
      (∑ k : Fin 1024, x (ix2 r k) * v61 (ix2 k f) + v63 (ix3 0 0 f)) * v81 (ix2 f e) := by
  pointwise [k0_pay3, act, dot_S512x1024_S1024x512_S512x512_1_0_0_1_n_n, dot_S512x512_S512x1024_S512x1024_1_0_0_1_n_n]

theorem pay6_apply (x : Vec Ideal S512x1024 .f32) (b : Vec Ideal S1x1x1024 .f32) (v55 : Vec Ideal S1024x512 .bf16) (v57 : Vec Ideal S1x1x512 .f32)
    (v61 : Vec Ideal S1024x512 .bf16) (v63 : Vec Ideal S1x1x512 .f32) (v81 : Vec Ideal S512x1024 .bf16) (r : Fin 512) (e : Fin 1024) :
    k0_pay6 x b v55 v57 v61 v63 v81 (ix2 r e) = b (ix3 0 0 e) + ∑ f : Fin 512, act (∑ k : Fin 1024, x (ix2 r k) * v55 (ix2 k f) + v57 (ix3 0 0 f))
      (∑ k : Fin 1024, x (ix2 r k) * v61 (ix2 k f) + v63 (ix3 0 0 f)) * v81 (ix2 f e) := by
  pointwise [k0_pay6, k0_pay5, act, dot_S512x1024_S1024x512_S512x512_1_0_0_1_n_n, dot_S512x512_S512x1024_S512x1024_1_0_0_1_n_n]

theorem half_sum (g : Fin 1024 → EReal) : ∑ f : Fin 1024, g f = ∑ f : Fin 512, g ⟨f.val, by omega⟩ + ∑ f : Fin 512, g ⟨512 + f.val, by omega⟩ :=
  Fin.sum_univ_add (a := 512) (b := 512) g

theorem pay5_apply (x : Vec Ideal S512x1024 .f32) (r : Fin 512) (k : Fin 1024) : k0_pay5 x (ix2 r k) = x (ix2 r k) := by
  pointwise [k0_pay5]

/-- A row of a block in use. -/
theorem rows_apply (x : Vec Ideal S512x1024 .f32) (wg : Vec Ideal S1x1024x2048 .f32) (bg : Vec Ideal S1x1x2048 .f32) (wd : Vec Ideal S1x1024x1024 .f32)
    (bd : Vec Ideal S1x1x1024 .f32) (r : Fin 512) (e : Fin 1024) :
    rows x (k0_pay1 wg) bg (k0_pay2 wd) bd (ix2 r e) = rowOut (fun k => x (ix2 r k)) (fun k f => wg (ix3 0 k f)) (fun f => bg (ix3 0 0 f)) (fun f => wd (ix3 0 f e)) (bd (ix3 0 0 e)) := by
  rw [rows, pay3_apply, pay6_apply, rowOut, half_sum, add_assoc, add_comm]
  congr 1
  congr 1
  · refine Finset.sum_congr rfl fun f _ => ?_
    unfold hid
    rw [ldb_apply _ _ _ _ (by omega), ldb_apply _ _ _ _ (by omega), ldd_apply _ _ _ _ _ (by omega)]
    simp only [ldw_apply wg 0 (ho := by omega), ldw_apply wg 1024 (ho := by omega), Nat.zero_add]
  · refine Finset.sum_congr rfl fun f _ => ?_
    unfold hid
    rw [ldb_apply _ _ _ _ (by omega), ldb_apply _ _ _ _ (by omega), ldd_apply _ _ _ _ _ (by omega)]
    simp only [ldw_apply wg 512 (ho := by omega), ldw_apply wg 1536 (ho := by omega), pay5_apply, show 1536 + f.val = 1024 + (512 + f.val) from by omega]

end Cert.Kernel2Ideal.Moe

end
-- ==== Proof.Moe.Refer.lean ====
module
public import proofs.«01_k».proof.Proof.Gen.Reference2Ideal.Run
public import proofs.«01_k».proof.Proof.Moe.Read
public import Idealize.ShloMosaic.Lib.Pointwise
@[expose] public section

set_option maxRecDepth 16384

noncomputable section

namespace Cert.Reference2Ideal.Moe

open Cert.Reference2Ideal Cert.Reference2Ideal.Gen Cert.Reference2Ideal.Value
open Idealize.ShloMosaic Idealize.ShloMosaic.TcCoe Idealize.ShloMosaic.Tactic

variable {F : FTy → Type} [FloatOps F]

/-- The expert of each block, counted from the end where it is negative. -/
def idx (a0 : IVec S288 32) : IVec S288x1 32 :=
  (broadcastInDim S288x1 ![0] bcast_S288_S288x1_0 (select (cmpi .slt a0 (broadcastInDim S288 ![] bcast_S_S288 (constantI S_ 32 0#32))) (addi a0 (broadcastInDim S288 ![] bcast_S_S288 (constantI S_ 32 32#32))) a0))

/-- The gates and the other halves. -/
def gu (a0 : IVec S288 32) (a2 : FVec F S147456x1024 .f32) (a3 : FVec F S32x1024x2048 .f32) (a4 : FVec F S32x2048 .f32) : FVec F S288x512x2048 .f32 :=
  (addf (Host.dotGeneral dot_S288x512x1024_S288x1024x2048_S288x512x2048_2_1_1_2_0_0 none (shapeCast _ a2 shapeCasts_S147456x1024_S288x512x1024) (Host.gather gather_S32x1024x2048_S288x1_S288x1024x2048_12_0_n_n_0_1_110242048 a3 (idx a0))) (broadcastInDim S288x512x2048 ![0, 1, 2] bcast_S288x1x2048_S288x512x2048_0_1_2 (broadcastInDim S288x1x2048 ![0, 2] bcast_S288x2048_S288x1x2048_0_2 (Host.gather gather_S32x2048_S288x1_S288x2048_1_0_n_n_0_1_12048 a4 (idx a0)))))

/-- The hidden units. -/
def hd (z : FVec F S288x512x2048 .f32) : FVec F S288x512x1024 .f32 :=
  (mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] z slices_S288x512x2048_S288x512x1024_0_0_1024))) (broadcastInDim S288x512x1024 ![] bcast_S_S288x512x1024 (constant S_ .f32 0x3F800000#32))) (mulf (minimumf (extractStridedSlice S288x512x1024 ![0, 0, 0] z slices_S288x512x2048_S288x512x1024_0_0_0) (broadcastInDim S288x512x1024 ![] bcast_S_S288x512x1024 (constant S_ .f32 0x40E00000#32))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] z slices_S288x512x2048_S288x512x1024_0_0_0) (broadcastInDim S288x512x1024 ![] bcast_S_S288x512x1024 (constant S_ .f32 0x40E00000#32))))))))))

/-- The reference's result, of its seven arguments. -/
def out (a0 : IVec S288 32) (a1 : IVec S1 32) (a2 : FVec F S147456x1024 .f32) (a3 : FVec F S32x1024x2048 .f32) (a4 : FVec F S32x2048 .f32)
    (a5 : FVec F S32x1024x1024 .f32) (a6 : FVec F S32x1024 .f32) : FVec F S147456x1024 .f32 :=
  shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ a1 shapeCasts_S1_S_))))) (addf (Host.dotGeneral dot_S288x512x1024_S288x1024x1024_S288x512x1024_2_1_1_2_0_0 none (hd (gu a0 a2 a3 a4)) (Host.gather gather_S32x1024x1024_S288x1_S288x1024x1024_12_0_n_n_0_1_110241024 a5 (idx a0))) (broadcastInDim S288x512x1024 ![0, 1, 2] bcast_S288x1x1024_S288x512x1024_0_1_2 (broadcastInDim S288x1x1024 ![0, 2] bcast_S288x1024_S288x1x1024_0_2 (Host.gather gather_S32x1024_S288x1_S288x1024_1_0_n_n_0_1_11024 a6 (idx a0))))) (broadcastInDim S288x512x1024 ![] bcast_S_S288x512x1024 (id (constant S_ .f32 0x00000000#32)))) shapeCasts_S288x512x1024_S147456x1024

theorem res_eq (m : (ℓ : Loc nD τ sig) → Buf (Elt F) ℓ) (c : Dev nD) :
    res_main_v60 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- A word below 32 as a number, read signed and cut to the range, is itself. -/
theorem cut_word (v : BitVec 32) (hv : v.toNat < 32) (n : Nat) (hn : n = 31) : min v.toInt.toNat n = v.toNat := by
  have := BitVec.toInt_eq_toNat_cond v
  split at this <;> omega

theorem idx_apply (a0 : IVec S288 32) (j : Fin 288) (h : (a0 (ix1 j) : BitVec 32).toNat < 32) : idx a0 (ix2 j 0) = a0 (ix1 j) := by
  unfold idx
  pointwise
  have e : IntOp.cmpi CmpIPredicate.slt (a0 (ix1 j)) 0#32 = 0#1 := by
    have : (a0 (ix1 j) : BitVec 32).slt 0#32 = false := by
      rw [BitVec.slt_eq_decide]
      apply decide_eq_false
      have h0 : (0#32 : BitVec 32).toInt = 0 := by decide
      have := BitVec.toInt_eq_toNat_cond (a0 (ix1 j))
      split at this <;> omega
    simp [IntOp.cmpi, this]
  rw [e]
  rfl

theorem take3 (x : FVec F S32x1024x2048 .f32) (i : IVec S288x1 32) (j : Fin 288) (k : Fin 1024) (f : Fin 2048) (h : (i (ix2 j 0) : BitVec 32).toNat < 32) :
    Host.gather gather_S32x1024x2048_S288x1_S288x1024x2048_12_0_n_n_0_1_110242048 x i (ix3 j k f) = x (ix3 ⟨(i (ix2 j 0) : BitVec 32).toNat, h⟩ k f) := by
  unfold Host.gather
  congr 1
  funext a
  apply Fin.ext
  have e : ∀ c, gather_S32x1024x2048_S288x1_S288x1024x2048_12_0_n_n_0_1_110242048.siIdx (ix3 j k f) c = ix2 j 0 := by
    intro c; funext b; match b with | ⟨0, _⟩ => rfl | ⟨1, _⟩ => exact Subsingleton.elim (α := Fin 1) _ _
  match a with
  | ⟨0, _⟩ =>
    show min (i (gather_S32x1024x2048_S288x1_S288x1024x2048_12_0_n_n_0_1_110242048.siIdx (ix3 j k f) _)).toInt.toNat 31 + 0 + 0 = (i (ix2 j 0) : BitVec 32).toNat
    rw [e]; exact cut_word _ h _ rfl
  | ⟨1, _⟩ => show 0 + 0 + k.val = k.val; omega
  | ⟨2, _⟩ => show 0 + 0 + f.val = f.val; omega

theorem take5 (x : FVec F S32x1024x1024 .f32) (i : IVec S288x1 32) (j : Fin 288) (k : Fin 1024) (f : Fin 1024) (h : (i (ix2 j 0) : BitVec 32).toNat < 32) :
    Host.gather gather_S32x1024x1024_S288x1_S288x1024x1024_12_0_n_n_0_1_110241024 x i (ix3 j k f) = x (ix3 ⟨(i (ix2 j 0) : BitVec 32).toNat, h⟩ k f) := by
  unfold Host.gather
  congr 1
  funext a
  apply Fin.ext
  have e : ∀ c, gather_S32x1024x1024_S288x1_S288x1024x1024_12_0_n_n_0_1_110241024.siIdx (ix3 j k f) c = ix2 j 0 := by
    intro c; funext b; match b with | ⟨0, _⟩ => rfl | ⟨1, _⟩ => exact Subsingleton.elim (α := Fin 1) _ _
  match a with
  | ⟨0, _⟩ =>
    show min (i (gather_S32x1024x1024_S288x1_S288x1024x1024_12_0_n_n_0_1_110241024.siIdx (ix3 j k f) _)).toInt.toNat 31 + 0 + 0 = (i (ix2 j 0) : BitVec 32).toNat
    rw [e]; exact cut_word _ h _ rfl
  | ⟨1, _⟩ => show 0 + 0 + k.val = k.val; omega
  | ⟨2, _⟩ => show 0 + 0 + f.val = f.val; omega

theorem take4 (x : FVec F S32x2048 .f32) (i : IVec S288x1 32) (j : Fin 288) (f : Fin 2048) (h : (i (ix2 j 0) : BitVec 32).toNat < 32) :
    Host.gather gather_S32x2048_S288x1_S288x2048_1_0_n_n_0_1_12048 x i (ix2 j f) = x (ix2 ⟨(i (ix2 j 0) : BitVec 32).toNat, h⟩ f) := by
  unfold Host.gather
  congr 1
  funext a
  apply Fin.ext
  have e : ∀ c, gather_S32x2048_S288x1_S288x2048_1_0_n_n_0_1_12048.siIdx (ix2 j f) c = ix2 j 0 := by
    intro c; funext b; match b with | ⟨0, _⟩ => rfl | ⟨1, _⟩ => exact Subsingleton.elim (α := Fin 1) _ _
  match a with
  | ⟨0, _⟩ =>
    show min (i (gather_S32x2048_S288x1_S288x2048_1_0_n_n_0_1_12048.siIdx (ix2 j f) _)).toInt.toNat 31 + 0 + 0 = (i (ix2 j 0) : BitVec 32).toNat
    rw [e]; exact cut_word _ h _ rfl
  | ⟨1, _⟩ => show 0 + 0 + f.val = f.val; omega

theorem take6 (x : FVec F S32x1024 .f32) (i : IVec S288x1 32) (j : Fin 288) (f : Fin 1024) (h : (i (ix2 j 0) : BitVec 32).toNat < 32) :
    Host.gather gather_S32x1024_S288x1_S288x1024_1_0_n_n_0_1_11024 x i (ix2 j f) = x (ix2 ⟨(i (ix2 j 0) : BitVec 32).toNat, h⟩ f) := by
  unfold Host.gather
  congr 1
  funext a
  apply Fin.ext
  have e : ∀ c, gather_S32x1024_S288x1_S288x1024_1_0_n_n_0_1_11024.siIdx (ix2 j f) c = ix2 j 0 := by
    intro c; funext b; match b with | ⟨0, _⟩ => rfl | ⟨1, _⟩ => exact Subsingleton.elim (α := Fin 1) _ _
  match a with
  | ⟨0, _⟩ =>
    show min (i (gather_S32x1024_S288x1_S288x1024_1_0_n_n_0_1_11024.siIdx (ix2 j f) _)).toInt.toNat 31 + 0 + 0 = (i (ix2 j 0) : BitVec 32).toNat
    rw [e]; exact cut_word _ h _ rfl
  | ⟨1, _⟩ => show 0 + 0 + f.val = f.val; omega

theorem one_val : Ideal.ofBits FTy.f32 0x3F800000#32 = (1 : EReal) := by
  have e : ¬ BitVec.extractLsb' 31 1 1065353216#32 = 1#1 := by decide
  norm_num [Ideal.ofBits, Ideal.ieee, Nat.shiftRight_eq_div_pow, e]

theorem zero_val : Ideal.ofBits FTy.f32 0x00000000#32 = (0 : EReal) := by
  norm_num [Ideal.ofBits, Ideal.ieee]

theorem gu_apply (a0 : IVec S288 32) (a2 : FVec Ideal S147456x1024 .f32) (a3 : FVec Ideal S32x1024x2048 .f32) (a4 : FVec Ideal S32x2048 .f32)
    (j : Fin 288) (r : Fin 512) (f : Fin 2048) (h : (a0 (ix1 j) : BitVec 32).toNat < 32) :
    gu a0 a2 a3 a4 (ix3 j r f) = ∑ k : Fin 1024, a2 (ix2 ⟨512 * j.val + r.val, by omega⟩ k) * a3 (ix3 ⟨(a0 (ix1 j) : BitVec 32).toNat, h⟩ k f) + a4 (ix2 ⟨(a0 (ix1 j) : BitVec 32).toNat, h⟩ f) := by
  have e := idx_apply a0 j h
  have h' : (idx a0 (ix2 j 0) : BitVec 32).toNat < 32 := by rw [e]; exact h
  have t3 := fun k => take3 a3 (idx a0) j k f h'
  have t4 := take4 a4 (idx a0) j f h'
  simp only [e] at t3 t4
  unfold gu
  generalize Host.gather gather_S32x1024x2048_S288x1_S288x1024x2048_12_0_n_n_0_1_110242048 a3 (idx a0) = w at *
  generalize Host.gather gather_S32x2048_S288x1_S288x2048_1_0_n_n_0_1_12048 a4 (idx a0) = b at *
  pointwise [dot_S288x512x1024_S288x1024x2048_S288x512x2048_2_1_1_2_0_0]
  simp only [t3, t4, Nat.mul_comm j.val 512]

theorem hd_apply (z : FVec Ideal S288x512x2048 .f32) (j : Fin 288) (r : Fin 512) (f : Fin 1024) :
    hd z (ix3 j r f) = Cert.Kernel2Ideal.Moe.act (z (ix3 j r ⟨f.val, by omega⟩)) (z (ix3 j r ⟨1024 + f.val, by omega⟩)) := by
  unfold Cert.Kernel2Ideal.Moe.act Ideal.logistic
  have e0 : extractStridedSlice S288x512x1024 ![0, 0, 0] z slices_S288x512x2048_S288x512x1024_0_0_0 (ix3 j r f) = z (ix3 j r ⟨f.val, by omega⟩) := by
    pointwise
  have e1 : extractStridedSlice S288x512x1024 ![0, 0, 1024] z slices_S288x512x2048_S288x512x1024_0_0_1024 (ix3 j r f) = z (ix3 j r ⟨1024 + f.val, by omega⟩) := by
    pointwise
  rw [← e0, ← e1]
  unfold hd
  generalize extractStridedSlice S288x512x1024 ![0, 0, 0] z slices_S288x512x2048_S288x512x1024_0_0_0 = g
  generalize extractStridedSlice S288x512x1024 ![0, 0, 1024] z slices_S288x512x2048_S288x512x1024_0_0_1024 = u
  pointwise
  rfl

theorem out_apply (a0 : IVec S288 32) (a1 : IVec S1 32) (a2 : FVec Ideal S147456x1024 .f32) (a3 : FVec Ideal S32x1024x2048 .f32) (a4 : FVec Ideal S32x2048 .f32)
    (a5 : FVec Ideal S32x1024x1024 .f32) (a6 : FVec Ideal S32x1024 .f32) (j : Fin 288) (r : Fin 512) (e : Fin 1024) (h : (a0 (ix1 j) : BitVec 32).toNat < 32) :
    out a0 a1 a2 a3 a4 a5 a6 (ix2 ⟨512 * j.val + r.val, by omega⟩ e) = Scalar.select (IntOp.cmpi .slt (BitVec.ofNat 32 j.val) (a1 (ix1 0)))
      (Cert.Kernel2Ideal.Moe.rowOut (fun k => a2 (ix2 ⟨512 * j.val + r.val, by omega⟩ k)) (fun k f => a3 (ix3 ⟨(a0 (ix1 j) : BitVec 32).toNat, h⟩ k f))
        (fun f => a4 (ix2 ⟨(a0 (ix1 j) : BitVec 32).toNat, h⟩ f)) (fun f => a5 (ix3 ⟨(a0 (ix1 j) : BitVec 32).toNat, h⟩ f e)) (a6 (ix2 ⟨(a0 (ix1 j) : BitVec 32).toNat, h⟩ e)))
      (Ideal.ofBits FTy.f32 0x00000000#32) := by
  have ei := idx_apply a0 j h
  have h' : (idx a0 (ix2 j 0) : BitVec 32).toNat < 32 := by rw [ei]; exact h
  have t5 := fun f => take5 a5 (idx a0) j f e h'
  have t6 := take6 a6 (idx a0) j e h'
  simp only [ei] at t5 t6
  have tz := fun f => (hd_apply (gu a0 a2 a3 a4) j r f)
  simp only [gu_apply a0 a2 a3 a4 j r _ h] at tz
  unfold out
  generalize Host.gather gather_S32x1024x1024_S288x1_S288x1024x1024_12_0_n_n_0_1_110241024 a5 (idx a0) = w at *
  generalize Host.gather gather_S32x1024_S288x1_S288x1024_1_0_n_n_0_1_11024 a6 (idx a0) = b at *
  generalize hd (gu a0 a2 a3 a4) = y at *
  pointwise [dot_S288x512x1024_S288x1024x1024_S288x512x1024_2_1_1_2_0_0]
  have e1 : (⟨(512 * j.val + r.val) / 512, by omega⟩ : Fin 288) = j := Fin.ext (by show (512 * j.val + r.val) / 512 = j.val; omega)
  have e2 : (⟨(512 * j.val + r.val) % 512, by omega⟩ : Fin 512) = r := Fin.ext (by show (512 * j.val + r.val) % 512 = r.val; omega)
  simp only [e1, e2, t5, t6, tz]
  rw [show (id (constant (F := Ideal) S_ .f32 0x00000000#32) : FVec Ideal S_ .f32) ix0 = (0 : EReal) from zero_val]
  rfl

end Cert.Reference2Ideal.Moe

end
-- ==== Proof.Moe.Same.lean ====
module
public import proofs.«01_k».proof.Proof.Moe.Arr
public import proofs.«01_k».proof.Proof.Moe.Refer
@[expose] public section

set_option maxRecDepth 16384

noncomputable section

namespace Cert.Kernel2Ideal.Moe

open Cert.Kernel2Ideal.Gen
open Idealize.ShloMosaic Idealize.ShloMosaic.TcCoe Idealize.ShloMosaic.Tactic

variable (m : (ℓ : Loc nD τ sig) → Buf (Elt Ideal) ℓ) (h : Within m) (c : Dev nD)

theorem bias_g (x : FVec Ideal S32x2048 .f32) (e : Fin 32) (f : Fin 2048) : shapeCast S32x1x2048 x shapeCasts_S32x2048_S32x1x2048 (ix3 e 0 f) = x (ix2 e f) := by
  pointwise

theorem bias_d (x : FVec Ideal S32x1024 .f32) (e : Fin 32) (f : Fin 1024) : shapeCast S32x1x1024 x shapeCasts_S32x1024_S32x1x1024 (ix3 e 0 f) = x (ix2 e f) := by
  pointwise

theorem used_word (x : Vec Ideal S1 .i32) : nUsed x = x (ix1 0) := by
  unfold nUsed View.ld
  exact congrArg x (funext fun a => by match a with | ⟨0, _⟩ => exact Subsingleton.elim (α := Fin 1) _ _)

theorem pick {p q : BitVec 1} {x y : Vec Ideal S512x1024 .f32} {j : S512x1024.Idx} {a b : EReal} (hpq : p = 1#1 ↔ q = 1#1) (hx : x j = a) (hy : y j = b) :
    (if p = 1#1 then x else y) j = Scalar.select q a b := by
  show _ = if q = 1#1 then a else b
  by_cases hp : p = 1#1
  · rw [if_pos hp, if_pos (hpq.mp hp)]; exact hx
  · rw [if_neg hp, if_neg fun h' => hp (hpq.mpr h')]; exact hy

theorem row_congr {x x' : Fin 1024 → EReal} {wg wg' : Fin 1024 → Fin 2048 → EReal} {bg bg' : Fin 2048 → EReal} {wd wd' : Fin 1024 → EReal} {b b' : EReal}
    (hx : ∀ k, x k = x' k) (hg : ∀ k f, wg k f = wg' k f) (hb : ∀ f, bg f = bg' f) (hd : ∀ f, wd f = wd' f) (hc : b = b') :
    rowOut x wg bg wd b = rowOut x' wg' bg' wd' b' := by
  obtain rfl : x = x' := funext hx
  obtain rfl : wg = wg' := funext fun k => funext (hg k)
  obtain rfl : bg = bg' := funext hb
  obtain rfl : wd = wd' := funext hd
  rw [hc]

/-- An element of a block of the kernel's result is the reference's. -/
theorem point_eq (t : Fin grid0.N) (r : Fin 512) (e : Fin 1024) :
    outAt m h c t (ix2 r e) = Cert.Reference2Ideal.Moe.out (F := Ideal) (tabE m) (tabN m) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (ix2 ⟨512 * t.val + r.val, by have : t.val < 288 := t.isLt.trans_eq N_0; omega⟩ e) := by
  have hN : t.val < 288 := t.isLt.trans_eq N_0
  have ho := Cert.Reference2Ideal.Moe.out_apply (tabE m) (tabN m) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) ⟨t.val, hN⟩ r e (h _)
  refine Eq.trans ?_ ho.symm
  have hu : (k0_cond2 (grid0.coords t) (nUsed (tabN m)) = 1#1) ↔ IntOp.cmpi .slt (BitVec.ofNat 32 t.val) (tabN m (ix1 0)) = 1#1 := by
    rw [cond2_iff, used_word]
    unfold used
    rw [coord]
    exact (bit_of _).symm
  have hx : ∀ k, (iblk m h c 0 t : Vec Ideal S512x1024 .f32) (ix2 r k) = m ((c.tc : Thread nD τ).loc main_arg2) (ix2 ⟨512 * t.val + r.val, by omega⟩ k) := fun k => by
    rw [blk_x m h c t r k ⟨512 * t.val + r.val, by omega⟩ rfl, V_arg2]
  have he : (⟨(expertAt m t).toNat, expert_lt m h t⟩ : Fin 32) = ⟨(tabE m (ix1 ⟨t.val, hN⟩) : BitVec 32).toNat, h _⟩ := Fin.ext (by
    show (expertAt m t).toNat = _
    rw [expert_eq])
  have hg : ∀ k f, (iblk m h c 1 t : Vec Ideal S1x1024x2048 .f32) (ix3 0 k f) = m ((c.tc : Thread nD τ).loc main_arg3) (ix3 ⟨(tabE m (ix1 ⟨t.val, hN⟩) : BitVec 32).toNat, h _⟩ k f) := fun k f => by
    rw [blk_g, he, V_arg3]
  have hd : ∀ f, (iblk m h c 3 t : Vec Ideal S1x1024x1024 .f32) (ix3 0 f e) = m ((c.tc : Thread nD τ).loc main_arg5) (ix3 ⟨(tabE m (ix1 ⟨t.val, hN⟩) : BitVec 32).toNat, h _⟩ f e) := fun f => by
    rw [blk_d, he, V_arg5]
  have hb : ∀ f, (iblk m h c 2 t : Vec Ideal S1x1x2048 .f32) (ix3 0 0 f) = m ((c.tc : Thread nD τ).loc main_arg4) (ix2 ⟨(tabE m (ix1 ⟨t.val, hN⟩) : BitVec 32).toNat, h _⟩ f) := fun f => by
    rw [blk_h, he, V_v0, bias_g]
  have hc : (iblk m h c 4 t : Vec Ideal S1x1x1024 .f32) (ix3 0 0 e) = m ((c.tc : Thread nD τ).loc main_arg6) (ix2 ⟨(tabE m (ix1 ⟨t.val, hN⟩) : BitVec 32).toNat, h _⟩ e) := by
    rw [blk_e, he, V_v1, bias_d]
  refine pick (x := rows (iblk m h c 0 t) (k0_pay1 (iblk m h c 1 t)) (iblk m h c 2 t) (k0_pay2 (iblk m h c 3 t)) (iblk m h c 4 t)) (y := k0_pay4 (F := Ideal)) hu ?_ rfl
  exact (rows_apply _ _ _ _ _ r e).trans (row_congr hx hg hb hd hc)

/-- The kernel's result is the reference's of the same arguments. -/
theorem whole : result m h c = Cert.Reference2Ideal.Moe.out (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  have hc : c = 0 := Subsingleton.elim _ _
  subst hc
  funext j
  have h0 : (j 0).val < 147456 := (j 0).isLt
  unfold result
  refine (point_eq m h 0 _ _ _).trans ?_
  refine congrArg (Cert.Reference2Ideal.Moe.out (F := Ideal) _ _ _ _ _ _ _) (funext fun a => Fin.ext ?_)
  match a with
  | ⟨0, _⟩ => show 512 * ((j 0).val / 512) + (j 0).val % 512 = (j 0).val; omega
  | ⟨1, _⟩ => rfl

end Cert.Kernel2Ideal.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Plain.Launch
public import proofs.«01_k».proof.Proof.Launch
public import proofs.«01_k».proof.Proof.Same
public import proofs.«01_k».proof.Proof.Gen.Reference2Ideal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.MoePlain.Within
public import proofs.«01_k».proof.Proof.Moe.Within
public import proofs.«01_k».proof.Proof.Moe.Same
public import proofs.«01_k».proof.Proof.Gen.Pre_an_expert
public import Idealize.ShloMosaic.Adequacy
public import Idealize.ShloMosaic.Init

@[expose] public section

noncomputable section

namespace Cert.Proof

open Idealize.ShloMosaic Idealize.SL.Sem

theorem frameKernel : Cert.quiescent_Kernel (hKernel := Cert.Kernel.Gen.facts) :=
  fun m g _ => Cert.Kernel.Att.args_kept m g

theorem frameKernelIdeal : Cert.quiescent_KernelIdeal (hKernelIdeal := Cert.KernelIdeal.Gen.facts) :=
  fun m g _ => Cert.KernelIdeal.Att.args_kept m g

theorem frameReference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩) (Cert.ReferenceIdeal.Value.run m g)

theorem maskNamed : Cert.preserves_Kernel_KernelIdeal :=
  IdealRules.named_const.statement Cert.KernelIdeal.κ "mask" .f32 0xF149F2CA#32 ⊥ rfl

theorem frameKernelIdealFinite : Cert.quiescent_KernelIdeal_pre_finite (hKernelIdeal := Cert.KernelIdeal.Gen.facts) (hPre_finite := Cert.Pre_finite.facts) :=
  fun m g _ => frameKernelIdeal m g trivial

theorem frameReferenceFinite : Cert.quiescent_ReferenceIdeal_pre_finite (hReferenceIdeal := Cert.ReferenceIdeal.Gen.facts) (hPre_finite := Cert.Pre_finite.facts) :=
  fun m g _ => frameReference m g trivial

/-- Of any queries and keys, and of finite values and finite factors of the difference, the kernel's result is the reference's. -/
theorem same : Cert.algebraic_KernelIdeal_ReferenceIdeal_pre_finite (hKernelIdeal := Cert.KernelIdeal.Gen.facts)
    (hReferenceIdeal := Cert.ReferenceIdeal.Gen.facts) (hPre_finite := Cert.Pre_finite.facts) :=
  fun m g m' g' hp ha => ⟨fun c => Cert.KernelIdeal.Att.result m c, Cert.KernelIdeal.Att.result_run m g,
    (θ_run Cert.ReferenceIdeal.defs _ _).mono
      (fun r h c => ⟨(h c).1.trans ((Cert.ReferenceIdeal.Att.res_eq m' c).trans (by
        obtain ⟨a0, a1, a2, a3, a4⟩ := ha c
        rw [a0, a1, a2, a3, a4]
        exact Cert.Same.whole m c Cert.Pre_finite.facts (hp c))), (h c).2⟩)
      (Cert.ReferenceIdeal.Value.run m' g')⟩

/-- Of any tables whose experts are among the 32, the experts' call runs and leaves its arguments as they were. -/
theorem frameKernel2 : Cert.quiescent_Kernel2 (hKernel2 := Cert.Kernel2.Gen.facts) (hPre_an_expert := Cert.Pre_an_expert.Gen.facts) :=
  fun m g hp => (θ_run Cert.Kernel2.defs _ _).mono (fun r h => ⟨fun c => (h.1 c).2, h.2⟩)
    (Cert.Kernel2.Moe.result_run (F := Bits) m g (fun x => Cert.Kernel2.Moe.within_of (hP := Cert.Pre_an_expert.Gen.facts) _ _ _ _ _ _ _ (hp 0) x))

theorem frameKernel2Ideal : Cert.quiescent_Kernel2Ideal (hKernel2Ideal := Cert.Kernel2Ideal.Gen.facts) (hPre_an_expert := Cert.Pre_an_expert.Gen.facts) :=
  fun m g hp => (θ_run Cert.Kernel2Ideal.defs _ _).mono (fun r h => ⟨fun c => (h.1 c).2, h.2⟩)
    (Cert.Kernel2Ideal.Moe.result_run m g (fun x => Cert.Kernel2Ideal.Moe.within_of (hP := Cert.Pre_an_expert.Gen.facts) _ _ _ _ _ _ _ (hp 0) x))

theorem frameReference2 : Cert.quiescent_Reference2Ideal (hReference2Ideal := Cert.Reference2Ideal.Gen.facts) :=
  fun m g _ => (θ_run Cert.Reference2Ideal.defs _ _).mono
    (fun r h => ⟨fun c => (h c).2, Idealize.ShloMosaic.sem_eq_zero_of_no_sems (by decide) r.2⟩) (Cert.Reference2Ideal.Value.run m g)

theorem frameReference2Expert : Cert.quiescent_Reference2Ideal_pre_an_expert (hReference2Ideal := Cert.Reference2Ideal.Gen.facts)
    (hPre_an_expert := Cert.Pre_an_expert.Gen.facts) :=
  fun m g _ => frameReference2 m g trivial

/-- Of any values and of tables whose experts are among the 32, the experts' result is the reference's. -/
theorem sameExperts : Cert.algebraic_Kernel2Ideal_Reference2Ideal (hKernel2Ideal := Cert.Kernel2Ideal.Gen.facts)
    (hReference2Ideal := Cert.Reference2Ideal.Gen.facts) (hPre_an_expert := Cert.Pre_an_expert.Gen.facts) :=
  fun m g m' g' hp ha =>
    have hw : Cert.Kernel2Ideal.Moe.Within m := fun x => Cert.Kernel2Ideal.Moe.within_of (hP := Cert.Pre_an_expert.Gen.facts) _ _ _ _ _ _ _ (hp 0) x
    ⟨fun c => Cert.Kernel2Ideal.Moe.result m hw c,
      (θ_run Cert.Kernel2Ideal.defs _ _).mono (fun r h c => ⟨(h.1 c).1.trans (Cert.Kernel2Ideal.Moe.result_all m hw c), (h.1 c).2⟩)
        (Cert.Kernel2Ideal.Moe.result_run m g hw),
      (θ_run Cert.Reference2Ideal.defs _ _).mono
        (fun r h c => ⟨(h c).1.trans ((Cert.Reference2Ideal.Moe.res_eq m' c).trans (by
          obtain ⟨a0, a1, a2, a3, a4, a5, a6⟩ := ha c
          rw [a0, a1, a2, a3, a4, a5, a6]
          exact (Cert.Kernel2Ideal.Moe.whole m hw c).symm)), (h c).2⟩)
        (Cert.Reference2Ideal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.facts, Cert.Pre_an_expert.Gen.facts,
    frameKernel, frameKernelIdeal, frameKernelIdealFinite, frameReference, frameReferenceFinite, frameKernel2, frameKernel2Ideal, frameReference2, frameReference2Expert,
    maskNamed, same, trivial, sameExperts⟩

end Cert.Proof

end
